-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)) (v4 : (c : Dev Cert.Kernel2Ideal.nD) → Buf (Elt Ideal) ((c.tc : Thread Cert.Kernel2Ideal.nD Cert.Kernel2Ideal.τ).loc Cert.Kernel2Ideal.main_v14_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_v14_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v112) = v2 c
          ∧ r.2.mem ((c.tc : Thread Cert.Reference2Ideal.nD Cert.Reference2Ideal.τ).loc Cert.Reference2Ideal.main_v98) = v3 c
          ∧ r.2.mem ((c.tc : Thread Cert.Reference2Ideal.nD Cert.Reference2Ideal.τ).loc Cert.Reference2Ideal.main_v111) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
-- ==== Pre_finite.lean ====
abbrev S32768x1024 : Shape := ⟨2, ![32768, 1024]⟩
abbrev S1024 : Shape := ⟨1, ![1024]⟩
abbrev S1024x2688 : Shape := ⟨2, ![1024, 2688]⟩
abbrev S2688x1024 : Shape := ⟨2, ![2688, 1024]⟩
abbrev S1024x3840 : Shape := ⟨2, ![1024, 3840]⟩
abbrev S64 : Shape := ⟨1, ![64]⟩
abbrev S_ : Shape := ⟨0, ![]⟩
abbrev S1024x1 : Shape := ⟨2, ![1024, 1]⟩

class Facts : Prop where
  bcast_S_S1024x3840 : S_.BroadcastsInDim S1024x3840 (![] : Fin 0 → Fin S1024x3840.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x3840_0_1 : S1024x1.BroadcastsInDim S1024x3840 (![0, 1] : Fin 2 → Fin S1024x3840.rank)

variable [Facts]

def fn {F : FTy → Type} [FloatOps F] (main_arg0 : FVec F S32768x1024 .f32) (main_arg1 : FVec F S1024 .f32) (main_arg2 : FVec F S1024x2688 .f32) (main_arg3 : FVec F S1024x2688 .f32) (main_arg4 : FVec F S2688x1024 .f32) (main_arg5 : FVec F S1024 .f32) (main_arg6 : FVec F S1024x3840 .f32) (main_arg7 : FVec F S64 .f32) (main_arg8 : FVec F S64 .f32) : IVec S1024x3840 1 :=
  let main_v0 : FVec F S1024x3840 .f32 := Host.absf main_arg6
  let main_cst : FVec F S_ .f32 := constant S_ .f32 0x7F800000#32
  let main_v1 : FVec F S1024x3840 .f32 := broadcastInDim S1024x3840 ![] bcast_S_S1024x3840 main_cst
  let main_v2 : IVec S1024x3840 1 := cmpf .olt main_v0 main_v1
  let main_v3 : FVec F S1024 .f32 := Host.absf main_arg5
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1024x1 1 := broadcastInDim S1024x1 ![0] bcast_S1024_S1024x1_0 main_v5
  let main_v7 : IVec S1024x3840 1 := broadcastInDim S1024x3840 ![0, 1] bcast_S1024x1_S1024x3840_0_1 main_v6
  let main_v8 : IVec S1024x3840 1 := andi main_v2 main_v7
  main_v8
-- ==== Kernel.lean ====
abbrev S32768x1024 : Shape := ⟨2, ![32768, 1024]⟩
abbrev S32768x512 : Shape := ⟨2, ![32768, 512]⟩
abbrev S32768x256 : Shape := ⟨2, ![32768, 256]⟩
abbrev S1024 : Shape := ⟨1, ![1024]⟩
abbrev S1024x2048 : Shape := ⟨2, ![1024, 2048]⟩
abbrev S2048 : Shape := ⟨1, ![2048]⟩
abbrev S512x1024 : Shape := ⟨2, ![512, 1024]⟩
abbrev S256x1024 : Shape := ⟨2, ![256, 1024]⟩
abbrev S1024x1024 : Shape := ⟨2, ![1024, 1024]⟩
abbrev S1024x2688 : Shape := ⟨2, ![1024, 2688]⟩
abbrev S2688x1024 : Shape := ⟨2, ![2688, 1024]⟩
abbrev S1x1024 : Shape := ⟨2, ![1, 1024]⟩
abbrev S1x2048 : Shape := ⟨2, ![1, 2048]⟩
abbrev S1024x512 : Shape := ⟨2, ![1024, 512]⟩
abbrev S1024x256 : Shape := ⟨2, ![1024, 256]⟩
abbrev S1024x128 : Shape := ⟨2, ![1024, 128]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩
abbrev S256x256 : Shape := ⟨2, ![256, 256]⟩
abbrev S1024x1280 : Shape := ⟨2, ![1024, 1280]⟩
abbrev S256x1280 : Shape := ⟨2, ![256, 1280]⟩
abbrev S1280x1024 : Shape := ⟨2, ![1280, 1024]⟩
abbrev S256x128 : Shape := ⟨2, ![256, 128]⟩
abbrev S256x1408 : Shape := ⟨2, ![256, 1408]⟩
abbrev S1408x1024 : Shape := ⟨2, ![1408, 1024]⟩

abbrev nBuf : Space → Nat
  | .hbm => 24
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x256, .bf16⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S512x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x2688, .f32⟩
  | .hbm, ⟨11, _⟩ => ⟨S1024x2688, .f32⟩
  | .hbm, ⟨12, _⟩ => ⟨S2688x1024, .f32⟩
  | .hbm, ⟨13, _⟩ => ⟨S1x1024, .f32⟩
  | .hbm, ⟨14, _⟩ => ⟨S1024x2048, .bf16⟩
  | .hbm, ⟨15, _⟩ => ⟨S1x2048, .f32⟩
  | .hbm, ⟨16, _⟩ => ⟨S512x1024, .bf16⟩
  | .hbm, ⟨17, _⟩ => ⟨S256x1024, .bf16⟩
  | .hbm, ⟨18, _⟩ => ⟨S1024x1024, .bf16⟩
  | .hbm, ⟨19, _⟩ => ⟨S1x1024, .f32⟩
  | .hbm, ⟨20, _⟩ => ⟨S1024x2688, .bf16⟩
  | .hbm, ⟨21, _⟩ => ⟨S1024x2688, .bf16⟩
  | .hbm, ⟨22, _⟩ => ⟨S2688x1024, .bf16⟩
  | .hbm, ⟨23, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S256x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x2688, .bf16⟩
  | .local _ .vmem, ⟨14, _⟩ => ⟨S1024x2688, .bf16⟩
  | .local _ .vmem, ⟨15, _⟩ => ⟨S2688x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2688 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2688 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2688x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S32768x1024 : Shape := ⟨2, ![32768, 1024]⟩
abbrev S32768x512 : Shape := ⟨2, ![32768, 512]⟩
abbrev S32768x256 : Shape := ⟨2, ![32768, 256]⟩
abbrev S1024 : Shape := ⟨1, ![1024]⟩
abbrev S1024x2048 : Shape := ⟨2, ![1024, 2048]⟩
abbrev S2048 : Shape := ⟨1, ![2048]⟩
abbrev S512x1024 : Shape := ⟨2, ![512, 1024]⟩
abbrev S256x1024 : Shape := ⟨2, ![256, 1024]⟩
abbrev S1024x1024 : Shape := ⟨2, ![1024, 1024]⟩
abbrev S1024x2688 : Shape := ⟨2, ![1024, 2688]⟩
abbrev S2688x1024 : Shape := ⟨2, ![2688, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S1x2048 : Shape := ⟨2, ![1, 2048]⟩
abbrev S32768x2x1024 : Shape := ⟨3, ![32768, 2, 1024]⟩
abbrev S32768x1x1024 : Shape := ⟨3, ![32768, 1, 1024]⟩
abbrev S32768x2688 : Shape := ⟨2, ![32768, 2688]⟩

abbrev nBuf : Space → Nat
  | .hbm => 88
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x256, .bf16⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S512x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x2688, .f32⟩
  | .hbm, ⟨11, _⟩ => ⟨S1024x2688, .f32⟩
  | .hbm, ⟨12, _⟩ => ⟨S2688x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x512, .f32⟩
  | .hbm, ⟨30, _⟩ => ⟨S32768x256, .f32⟩
  | .hbm, ⟨31, _⟩ => ⟨S32768x2048, .f32⟩
  | .hbm, ⟨32, _⟩ => ⟨S1x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768x2048, .f32⟩
  | .hbm, ⟨42, _⟩ => ⟨S32768x2048, .f32⟩
  | .hbm, ⟨43, _⟩ => ⟨S32768x2x1024, .f32⟩
  | .hbm, ⟨44, _⟩ => ⟨S32768x1x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S1x1024, .f32⟩
  | .hbm, ⟨69, _⟩ => ⟨S32768x1024, .f32⟩
  | .hbm, ⟨70, _⟩ => ⟨S32768x1024, .f32⟩
  | .hbm, ⟨71, _⟩ => ⟨S32768x2688, .f32⟩
  | .hbm, ⟨72, _⟩ => ⟨S32768x2688, .f32⟩
  | .hbm, ⟨73, _⟩ => ⟨S32768x2688, .f32⟩
  | .hbm, ⟨74, _⟩ => ⟨S_, .f32⟩
  | .hbm, ⟨75, _⟩ => ⟨S32768x2688, .f32⟩
  | .hbm, ⟨76, _⟩ => ⟨S32768x2688, .f32⟩
  | .hbm, ⟨77, _⟩ => ⟨S_, .f32⟩
  | .hbm, ⟨78, _⟩ => ⟨S32768x2688, .f32⟩
  | .hbm, ⟨79, _⟩ => ⟨S32768x2688, .f32⟩
  | .hbm, ⟨80, _⟩ => ⟨S32768x2688, .f32⟩
  | .hbm, ⟨81, _⟩ => ⟨S32768x2688, .f32⟩
  | .hbm, ⟨82, _⟩ => ⟨S32768x2688, .f32⟩
  | .hbm, ⟨83, _⟩ => ⟨S32768x1024, .f32⟩
  | .hbm, ⟨84, _⟩ => ⟨S_, .f32⟩
  | .hbm, ⟨85, _⟩ => ⟨S32768x1024, .f32⟩
  | .hbm, ⟨86, _⟩ => ⟨S32768x1024, .f32⟩
  | .hbm, ⟨87, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x2688 : Shape := ⟨2, ![1024, 2688]⟩
abbrev S2688x1024 : Shape := ⟨2, ![2688, 1024]⟩
abbrev S1024x3840 : Shape := ⟨2, ![1024, 3840]⟩
abbrev S64 : Shape := ⟨1, ![64]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S32768x1536 : Shape := ⟨2, ![32768, 1536]⟩
abbrev S32768x768 : Shape := ⟨2, ![32768, 768]⟩
abbrev S8x4x1024x768 : Shape := ⟨4, ![8, 4, 1024, 768]⟩
abbrev S8x16x256x768 : Shape := ⟨4, ![8, 16, 256, 768]⟩
abbrev S512x1024 : Shape := ⟨2, ![512, 1024]⟩
abbrev S512x1536 : Shape := ⟨2, ![512, 1536]⟩
abbrev S512x768 : Shape := ⟨2, ![512, 768]⟩
abbrev S1x4x128x768 : Shape := ⟨4, ![1, 4, 128, 768]⟩
abbrev S1x16x32x768 : Shape := ⟨4, ![1, 16, 32, 768]⟩
abbrev S4x6x256x128 : Shape := ⟨4, ![4, 6, 256, 128]⟩
abbrev S1024x256 : Shape := ⟨2, ![1024, 256]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩
abbrev S1024x1280 : Shape := ⟨2, ![1024, 1280]⟩
abbrev S256x1280 : Shape := ⟨2, ![256, 1280]⟩
abbrev S1280x1024 : Shape := ⟨2, ![1280, 1024]⟩
abbrev S256x256 : Shape := ⟨2, ![256, 256]⟩
abbrev S256x128 : Shape := ⟨2, ![256, 128]⟩
abbrev S256x1408 : Shape := ⟨2, ![256, 1408]⟩
abbrev S1408x1024 : Shape := ⟨2, ![1408, 1024]⟩
abbrev S1024x768 : Shape := ⟨2, ![1024, 768]⟩
abbrev S256x768 : Shape := ⟨2, ![256, 768]⟩
abbrev S1x1x256x128 : Shape := ⟨4, ![1, 1, 256, 128]⟩
abbrev S1x1x64x128 : Shape := ⟨4, ![1, 1, 64, 128]⟩
abbrev S64x128 : Shape := ⟨2, ![64, 128]⟩
abbrev S64x768 : Shape := ⟨2, ![64, 768]⟩
abbrev S1x1x64x768 : Shape := ⟨4, ![1, 1, 64, 768]⟩
abbrev S1x1x16x128 : Shape := ⟨4, ![1, 1, 16, 128]⟩
abbrev S16x128 : Shape := ⟨2, ![16, 128]⟩
abbrev S16x768 : Shape := ⟨2, ![16, 768]⟩
abbrev S1x1x16x768 : Shape := ⟨4, ![1, 1, 16, 768]⟩

abbrev nBuf : Space → Nat
  | .hbm => 28
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2688, .f32⟩
  | .hbm, ⟨3, _⟩ => ⟨S1024x2688, .f32⟩
  | .hbm, ⟨4, _⟩ => ⟨S2688x1024, .f32⟩
  | .hbm, ⟨5, _⟩ => ⟨S1024, .f32⟩
  | .hbm, ⟨6, _⟩ => ⟨S1024x3840, .f32⟩
  | .hbm, ⟨7, _⟩ => ⟨S64, .f32⟩
  | .hbm, ⟨8, _⟩ => ⟨S64, .f32⟩
  | .hbm, ⟨9, _⟩ => ⟨S1x1024, .f32⟩
  | .hbm, ⟨10, _⟩ => ⟨S1024x2688, .bf16⟩
  | .hbm, ⟨11, _⟩ => ⟨S1024x2688, .bf16⟩
  | .hbm, ⟨12, _⟩ => ⟨S2688x1024, .bf16⟩
  | .hbm, ⟨13, _⟩ => ⟨S1x1024, .f32⟩
  | .hbm, ⟨14, _⟩ => ⟨S1024x3840, .bf16⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S32768x1024, .f32⟩
  | .hbm, ⟨24, _⟩ => ⟨S32768x1536, .bf16⟩
  | .hbm, ⟨25, _⟩ => ⟨S32768x768, .bf16⟩
  | .hbm, ⟨26, _⟩ => ⟨S8x4x1024x768, .bf16⟩
  | .hbm, ⟨27, _⟩ => ⟨S8x16x256x768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S1024x2688, .bf16⟩
  | .local _ .vmem, ⟨5, _⟩ => ⟨S2688x1024, .bf16⟩
  | .local _ .vmem, ⟨6, _⟩ => ⟨S1x1024, .f32⟩
  | .local _ .vmem, ⟨7, _⟩ => ⟨S1024x3840, .bf16⟩
  | .local _ .vmem, ⟨8, _⟩ => ⟨S1x128, .f32⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x1536, .bf16⟩
  | .local _ .vmem, ⟨13, _⟩ => ⟨S512x1536, .bf16⟩
  | .local _ .vmem, ⟨14, _⟩ => ⟨S512x768, .bf16⟩
  | .local _ .vmem, ⟨15, _⟩ => ⟨S512x768, .bf16⟩
  | .local _ .vmem, ⟨16, _⟩ => ⟨S1x4x128x768, .bf16⟩
  | .local _ .vmem, ⟨17, _⟩ => ⟨S1x4x128x768, .bf16⟩
  | .local _ .vmem, ⟨18, _⟩ => ⟨S1x16x32x768, .bf16⟩
  | .local _ .vmem, ⟨19, _⟩ => ⟨S1x16x32x768, .bf16⟩
  | .local _ .vmem, ⟨20, _⟩ => ⟨S4x6x256x128, .f32⟩
  | .local _ .vmem, ⟨21, _⟩ => ⟨S1024x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2688x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3840 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x32x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x1024 : Shape := ⟨2, ![32768, 1024]⟩
abbrev S1024 : Shape := ⟨1, ![1024]⟩
abbrev S1024x2688 : Shape := ⟨2, ![1024, 2688]⟩
abbrev S2688x1024 : Shape := ⟨2, ![2688, 1024]⟩
abbrev S1024x3840 : Shape := ⟨2, ![1024, 3840]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2688 : Shape := ⟨2, ![32768, 2688]⟩
abbrev S32768x3840 : Shape := ⟨2, ![32768, 3840]⟩
abbrev S32768x1536 : Shape := ⟨2, ![32768, 1536]⟩
abbrev S32768x2304 : Shape := ⟨2, ![32768, 2304]⟩
abbrev S8x4096x3x3x4x64 : Shape := ⟨6, ![8, 4096, 3, 3, 4, 64]⟩
abbrev S8x4096x1x3x4x64 : Shape := ⟨6, ![8, 4096, 1, 3, 4, 64]⟩
abbrev S8x4096x3x4x64 : Shape := ⟨5, ![8, 4096, 3, 4, 64]⟩
abbrev S8x4096x3x4 : Shape := ⟨4, ![8, 4096, 3, 4]⟩
abbrev S8x4096x3x4x1 : Shape := ⟨5, ![8, 4096, 3, 4, 1]⟩
abbrev S1x1x1x1x64 : Shape := ⟨5, ![1, 1, 1, 1, 64]⟩
abbrev S8x4096x1x4x64 : Shape := ⟨5, ![8, 4096, 1, 4, 64]⟩
abbrev S8x4096x4x64 : Shape := ⟨4, ![8, 4096, 4, 64]⟩
abbrev S8x4096x256 : Shape := ⟨3, ![8, 4096, 256]⟩
abbrev S8x4096x768 : Shape := ⟨3, ![8, 4096, 768]⟩
abbrev S8x4096x1x768 : Shape := ⟨4, ![8, 4096, 1, 768]⟩
abbrev S8x1x4096x768 : Shape := ⟨4, ![8, 1, 4096, 768]⟩
abbrev S8x1024x4x768 : Shape := ⟨4, ![8, 1024, 4, 768]⟩
abbrev S8x4x1024x768 : Shape := ⟨4, ![8, 4, 1024, 768]⟩
abbrev S8x256x16x768 : Shape := ⟨4, ![8, 256, 16, 768]⟩
abbrev S8x16x256x768 : Shape := ⟨4, ![8, 16, 256, 768]⟩
abbrev S32768x768 : Shape := ⟨2, ![32768, 768]⟩

abbrev nBuf : Space → Nat
  | .hbm => 144
  | .vmem => 0
  | .smem => 0
  | _ => 0

abbrev hbmTy0_0 (i : Nat) : BufTy := match i % 128 with
  | 0 => ⟨S32768x1024, .f32⟩
  | 1 => ⟨S1024, .f32⟩
  | 2 => ⟨S1024x2688, .f32⟩
  | 3 => ⟨S1024x2688, .f32⟩
  | 4 => ⟨S2688x1024, .f32⟩
  | 5 => ⟨S1024, .f32⟩
  | 6 => ⟨S1024x3840, .f32⟩
  | 7 => ⟨S64, .f32⟩
  | 8 => ⟨S64, .f32⟩
  | 9 => ⟨S32768x1024, .f32⟩
  | 10 => ⟨S_, .f32⟩
  | 11 => ⟨S32768, .f32⟩
  | 12 => ⟨S32768x1, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1024, .f32⟩
  | 21 => ⟨S32768x1024, .f32⟩
  | 22 => ⟨S1x1024, .f32⟩
  | 23 => ⟨S32768x1024, .f32⟩
  | 24 => ⟨S32768x1024, .f32⟩
  | 25 => ⟨S32768x2688, .f32⟩
  | 26 => ⟨S32768x2688, .f32⟩
  | 27 => ⟨S32768x2688, .f32⟩
  | 28 => ⟨S_, .f32⟩
  | 29 => ⟨S32768x2688, .f32⟩
  | 30 => ⟨S32768x2688, .f32⟩
  | 31 => ⟨S_, .f32⟩
  | 32 => ⟨S32768x2688, .f32⟩
  | 33 => ⟨S32768x2688, .f32⟩
  | 34 => ⟨S32768x2688, .f32⟩
  | 35 => ⟨S32768x2688, .f32⟩
  | 36 => ⟨S32768x2688, .f32⟩
  | 37 => ⟨S32768x1024, .f32⟩
  | 38 => ⟨S_, .f32⟩
  | 39 => ⟨S32768x1024, .f32⟩
  | 40 => ⟨S32768x1024, .f32⟩
  | 41 => ⟨S32768x1024, .f32⟩
  | 42 => ⟨S32768x1024, .f32⟩
  | 43 => ⟨S_, .f32⟩
  | 44 => ⟨S32768, .f32⟩
  | 45 => ⟨S32768x1, .f32⟩
  | 46 => ⟨S_, .f32⟩
  | 47 => ⟨S32768x1, .f32⟩
  | 48 => ⟨S32768x1, .f32⟩
  | 49 => ⟨S_, .f32⟩
  | 50 => ⟨S32768x1, .f32⟩
  | 51 => ⟨S32768x1, .f32⟩
  | 52 => ⟨S32768x1, .f32⟩
  | 53 => ⟨S32768x1024, .f32⟩
  | 54 => ⟨S32768x1024, .f32⟩
  | 55 => ⟨S1x1024, .f32⟩
  | 56 => ⟨S32768x1024, .f32⟩
  | 57 => ⟨S32768x1024, .f32⟩
  | 58 => ⟨S32768x3840, .f32⟩
  | 59 => ⟨S32768x1536, .f32⟩
  | 60 => ⟨S32768x1536, .bf16⟩
  | 61 => ⟨S32768x2304, .f32⟩
  | 62 => ⟨S8x4096x3x3x4x64, .f32⟩
  | 63 => ⟨S8x4096x1x3x4x64, .f32⟩
  | 64 => ⟨S8x4096x3x4x64, .f32⟩
  | 65 => ⟨S8x4096x3x4x64, .f32⟩
  | 66 => ⟨S_, .f32⟩
  | 67 => ⟨S8x4096x3x4, .f32⟩
  | 68 => ⟨S8x4096x3x4x1, .f32⟩
  | 69 => ⟨S_, .f32⟩
  | 70 => ⟨S8x4096x3x4x1, .f32⟩
  | 71 => ⟨S8x4096x3x4x1, .f32⟩
  | 72 => ⟨S_, .f32⟩
  | 73 => ⟨S8x4096x3x4x1, .f32⟩
  | 74 => ⟨S8x4096x3x4x1, .f32⟩
  | 75 => ⟨S8x4096x3x4x1, .f32⟩
  | 76 => ⟨S8x4096x3x4x64, .f32⟩
  | 77 => ⟨S8x4096x3x4x64, .f32⟩
  | 78 => ⟨S1x1x1x1x64, .f32⟩
  | 79 => ⟨S8x4096x3x4x64, .f32⟩
  | 80 => ⟨S8x4096x3x4x64, .f32⟩
  | 81 => ⟨S_, .f32⟩
  | 82 => ⟨S8x4096x3x4x64, .f32⟩
  | 83 => ⟨S8x4096x3x4x64, .f32⟩
  | 84 => ⟨S8x4096x1x3x4x64, .f32⟩
  | 85 => ⟨S8x4096x3x4x64, .f32⟩
  | 86 => ⟨S8x4096x3x4x64, .f32⟩
  | 87 => ⟨S_, .f32⟩
  | 88 => ⟨S8x4096x3x4, .f32⟩
  | 89 => ⟨S8x4096x3x4x1, .f32⟩
  | 90 => ⟨S_, .f32⟩
  | 91 => ⟨S8x4096x3x4x1, .f32⟩
  | 92 => ⟨S8x4096x3x4x1, .f32⟩
  | 93 => ⟨S_, .f32⟩
  | 94 => ⟨S8x4096x3x4x1, .f32⟩
  | 95 => ⟨S8x4096x3x4x1, .f32⟩
  | 96 => ⟨S8x4096x3x4x1, .f32⟩
  | 97 => ⟨S8x4096x3x4x64, .f32⟩
  | 98 => ⟨S8x4096x3x4x64, .f32⟩
  | 99 => ⟨S1x1x1x1x64, .f32⟩
  | 100 => ⟨S8x4096x3x4x64, .f32⟩
  | 101 => ⟨S8x4096x3x4x64, .f32⟩
  | 102 => ⟨S8x4096x1x3x4x64, .f32⟩
  | 103 => ⟨S8x4096x3x4x64, .f32⟩
  | 104 => ⟨S8x4096x1x4x64, .f32⟩
  | 105 => ⟨S8x4096x4x64, .f32⟩
  | 106 => ⟨S8x4096x256, .f32⟩
  | 107 => ⟨S8x4096x1x4x64, .f32⟩
  | 108 => ⟨S8x4096x4x64, .f32⟩
  | 109 => ⟨S8x4096x256, .f32⟩
  | 110 => ⟨S8x4096x1x4x64, .f32⟩
  | 111 => ⟨S8x4096x4x64, .f32⟩
  | 112 => ⟨S8x4096x256, .f32⟩
  | 113 => ⟨S8x4096x768, .f32⟩
  | 114 => ⟨S8x4096x1x768, .f32⟩
  | 115 => ⟨S8x1x4096x768, .f32⟩
  | 116 => ⟨S8x1x4096x768, .bf16⟩
  | 117 => ⟨S8x4096x1x4x64, .f32⟩
  | 118 => ⟨S8x4096x4x64, .f32⟩
  | 119 => ⟨S8x4096x256, .f32⟩
  | 120 => ⟨S8x4096x1x4x64, .f32⟩
  | 121 => ⟨S8x4096x4x64, .f32⟩
  | 122 => ⟨S8x4096x256, .f32⟩
  | 123 => ⟨S8x4096x1x4x64, .f32⟩
  | 124 => ⟨S8x4096x4x64, .f32⟩
  | 125 => ⟨S8x4096x256, .f32⟩
  | 126 => ⟨S8x4096x768, .f32⟩
  | 127 => ⟨S8x1024x4x768, .f32⟩
  | _ => ⟨S32768x1024, .f32⟩

abbrev hbmTy0_1 (i : Nat) : BufTy := match i % 128 with
  | 0 => ⟨S8x4x1024x768, .f32⟩
  | 1 => ⟨S8x4x1024x768, .bf16⟩
  | 2 => ⟨S8x4096x1x4x64, .f32⟩
  | 3 => ⟨S8x4096x4x64, .f32⟩
  | 4 => ⟨S8x4096x256, .f32⟩
  | 5 => ⟨S8x4096x1x4x64, .f32⟩
  | 6 => ⟨S8x4096x4x64, .f32⟩
  | 7 => ⟨S8x4096x256, .f32⟩
  | 8 => ⟨S8x4096x1x4x64, .f32⟩
  | 9 => ⟨S8x4096x4x64, .f32⟩
  | 10 => ⟨S8x4096x256, .f32⟩
  | 11 => ⟨S8x4096x768, .f32⟩
  | 12 => ⟨S8x256x16x768, .f32⟩
  | 13 => ⟨S8x16x256x768, .f32⟩
  | 14 => ⟨S8x16x256x768, .bf16⟩
  | 15 => ⟨S32768x768, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩

abbrev nD : Nat := 1
abbrev τ : Topo := Topo.v7x

variable {F : FTy → Type} [FloatOps F]
-- ==== Proof.Rows.lean ====
/- One row of the layer's last stage, over the extended reals: the root-mean-square normalisation, the two gates,
   the merged mixers, the residual, and the gated feed-forward with its half-weight residual. Both programs are read
   as `outRow` of a row of the activations, a row of each mixer's output and the weights. -/
module

public import Idealize.ShloMosaic.Lib.Pointwise

@[expose] public section

noncomputable section

namespace Cert.Rows

open Idealize.ShloMosaic
open scoped BigOperators

/-- The divisor of a mean over 1024 lanes, as its f32 literal. -/
abbrev width : EReal := Ideal.ofBits .f32 0x44800000#32
/-- The small constant under the root, as its f32 literal. -/
abbrev small : EReal := Ideal.ofBits .f32 0x358637BD#32
/-- One half, as its f32 literal. -/
abbrev half : EReal := Ideal.ofBits .f32 0x3F000000#32

/-- A row scaled by the reciprocal root of its mean square and by the weights `g`. -/
def rms (x g : Fin 1024 → EReal) (k : Fin 1024) : EReal :=
  x k * Ideal.rsqrt (Ideal.div (∑ l : Fin 1024, x l * x l) width + small) * g k

/-- A row times a matrix. -/
def lin {K N : ℕ} (x : Fin K → EReal) (w : Fin K → Fin N → EReal) (n : Fin N) : EReal := ∑ k : Fin K, x k * w k n

/-- The gate of column `n`: the logistic of an affine function of the normalised row. -/
def gate {N : ℕ} (h : Fin 1024 → EReal) (w : Fin 1024 → Fin N → EReal) (b : Fin N → EReal) (n : Fin N) : EReal :=
  Ideal.logistic (lin h w n + b n)

/-- The two mixers' projections, each times its gate (the first 1024 gates, then the last 1024), summed. -/
def merged (G : Fin 2048 → EReal) (A B : Fin 1024 → EReal) (n : Fin 1024) : EReal :=
  G ⟨n.val, by omega⟩ * A n + G ⟨1024 + n.val, by omega⟩ * B n

/-- The hidden unit of a gated feed-forward: `a · logistic a · b`. -/
def unit (a b : EReal) : EReal := a * Ideal.logistic a * b

/-- The row after the merge: the residual plus the merged mixers' projection. -/
def mixRow (x : Fin 1024 → EReal) (yhy : Fin 512 → EReal) (yat : Fin 256 → EReal) (gm : Fin 1024 → EReal)
    (wg : Fin 1024 → Fin 2048 → EReal) (bg : Fin 2048 → EReal) (why : Fin 512 → Fin 1024 → EReal)
    (wat : Fin 256 → Fin 1024 → EReal) (wo : Fin 1024 → Fin 1024 → EReal) (n : Fin 1024) : EReal :=
  x n + lin (merged (gate (rms x gm) wg bg) (lin yhy why) (lin yat wat)) wo n

/-- The half-weight gated feed-forward of a row `x` with its residual. -/
def ffnRow (x g : Fin 1024 → EReal) (u v : Fin 1024 → Fin 2688 → EReal) (d : Fin 2688 → Fin 1024 → EReal) (n : Fin 1024) : EReal :=
  x n + half * lin (fun j => unit (lin (rms x g) u j) (lin (rms x g) v j)) d n

/-- A sum over the 2688 hidden units is the sum over the first 1280, the next 1280 and the last 128. -/
theorem sum_cut (f : Fin 2688 → EReal) :
    ∑ j : Fin 2688, f j = ∑ j : Fin 1280, f ⟨j.val, by omega⟩
      + (∑ j : Fin 1280, f ⟨1280 + j.val, by omega⟩ + ∑ j : Fin 128, f ⟨2560 + j.val, by omega⟩) := by
  have h1 := Fin.sum_univ_add (a := 1280) (b := 1408) f
  have h2 := Fin.sum_univ_add (a := 1280) (b := 128) (fun i : Fin 1408 => f (Fin.natAdd 1280 i))
  refine h1.trans (congrArg₂ (· + ·) rfl (h2.trans (congrArg₂ (· + ·) rfl ?_)))
  exact Finset.sum_congr rfl fun j _ => congrArg f (Fin.ext (by simp [Fin.natAdd]; omega))

end Cert.Rows

end
-- ==== Proof.Ref.lean ====
/- What the reference's host operations compute, stage by stage, each stage read at an index as the row functions. -/
module

public import proofs.«01_k».proof.Proof.Gen.ReferenceIdeal.Run
public import proofs.«01_k».proof.Proof.Rows

@[expose] public section

set_option maxRecDepth 16384

noncomputable section

namespace Cert.Ref

open Idealize.ShloMosaic Idealize.ShloMosaic.TcCoe Cert.ReferenceIdeal Cert.ReferenceIdeal.Gen Cert.Rows

/-- Rows normalised by their root mean square and scaled. -/
def normR (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- An entry of the normed rows. -/
theorem normR_apply (x : FVec Ideal S32768x1024 .f32) (g : FVec Ideal S1024 .f32) (R : Fin 32768) (k : Fin 1024) :
    normR x g (ix2 R k) = rms (fun l => x (ix2 R l)) (fun l => g (ix1 l)) k := by
  unfold rms width small
  pointwise [normR]

/-- The two gates of every row, side by side. -/
def gatesR (h : FVec Ideal S32768x1024 .f32) (w : FVec Ideal S1024x2048 .f32) (b : FVec Ideal S2048 .f32) : FVec Ideal S32768x2048 .f32 :=
  Host.divf (broadcastInDim S32768x2048 ![] bcast_S_S32768x2048 (constant S_ .f32 0x3F800000#32)) (addf (broadcastInDim S32768x2048 ![] bcast_S_S32768x2048 (constant S_ .f32 0x3F800000#32)) (Host.exp (Host.negf (addf (Host.dotGeneral dot_S32768x1024_S1024x2048_S32768x2048_1_0_0_1_n_n none h w) (broadcastInDim S32768x2048 ![0, 1] bcast_S1x2048_S32768x2048_0_1 (broadcastInDim S1x2048 ![1] bcast_S2048_S1x2048_1 b))))))

/-- An entry of the gates. -/
theorem gatesR_apply (h : FVec Ideal S32768x1024 .f32) (w : FVec Ideal S1024x2048 .f32) (b : FVec Ideal S2048 .f32) (R : Fin 32768) (n : Fin 2048) :
    gatesR h w b (ix2 R n) = gate (fun k => h (ix2 R k)) (fun k n => w (ix2 k n)) (fun n => b (ix1 n)) n := by
  unfold gate lin Ideal.logistic
  pointwise [gatesR]

/-- The first gate of every row. -/
def gateLo (G : FVec Ideal S32768x2048 .f32) : FVec Ideal S32768x1024 .f32 :=
  shapeCast _ (extractStridedSlice S32768x1x1024 ![0, 0, 0] (shapeCast _ G shapeCasts_S32768x2048_S32768x2x1024) slices_S32768x2x1024_S32768x1x1024_0_0_0) shapeCasts_S32768x1x1024_S32768x1024

/-- An entry of the first mixer's gate. -/
theorem gateLo_apply (G : FVec Ideal S32768x2048 .f32) (R : Fin 32768) (n : Fin 1024) :
    gateLo G (ix2 R n) = G (ix2 R ⟨n.val, by omega⟩) := by
  pointwise [gateLo]

/-- The second gate of every row. -/
def gateHi (G : FVec Ideal S32768x2048 .f32) : FVec Ideal S32768x1024 .f32 :=
  shapeCast _ (extractStridedSlice S32768x1x1024 ![0, 1, 0] (shapeCast _ G shapeCasts_S32768x2048_S32768x2x1024) slices_S32768x2x1024_S32768x1x1024_0_1_0) shapeCasts_S32768x1x1024_S32768x1024

/-- An entry of the second mixer's gate. -/
theorem gateHi_apply (G : FVec Ideal S32768x2048 .f32) (R : Fin 32768) (n : Fin 1024) :
    gateHi G (ix2 R n) = G (ix2 R ⟨1024 + n.val, by omega⟩) := by
  pointwise [gateHi]

/-- The gated mixers' outputs projected and added to the rows. -/
def mixR (x : FVec Ideal S32768x1024 .f32) (G : FVec Ideal S32768x2048 .f32) (yh : FVec Ideal S32768x512 .bf16) (ya : FVec Ideal S32768x256 .bf16)
    (wh : FVec Ideal S512x1024 .f32) (wa : FVec Ideal S256x1024 .f32) (wo : FVec Ideal S1024x1024 .f32) : FVec Ideal S32768x1024 .f32 :=
  addf x (Host.dotGeneral dot_S32768x1024_S1024x1024_S32768x1024_1_0_0_1_n_n none (addf (mulf (gateLo G) (Host.dotGeneral dot_S32768x512_S512x1024_S32768x1024_1_0_0_1_n_n none (extf .f32 yh bitsLt_bf16_f32) wh)) (mulf (gateHi G) (Host.dotGeneral dot_S32768x256_S256x1024_S32768x1024_1_0_0_1_n_n none (extf .f32 ya bitsLt_bf16_f32) wa))) wo)

/-- An entry of the tokens after the merge. -/
theorem mixR_apply (x : FVec Ideal S32768x1024 .f32) (G : FVec Ideal S32768x2048 .f32) (yh : FVec Ideal S32768x512 .bf16) (ya : FVec Ideal S32768x256 .bf16)
    (wh : FVec Ideal S512x1024 .f32) (wa : FVec Ideal S256x1024 .f32) (wo : FVec Ideal S1024x1024 .f32) (R : Fin 32768) (n : Fin 1024) :
    mixR x G yh ya wh wa wo (ix2 R n)
      = x (ix2 R n) + lin (merged (fun n => G (ix2 R n)) (lin (fun k => yh (ix2 R k)) (fun k n => wh (ix2 k n))) (lin (fun k => ya (ix2 R k)) (fun k n => wa (ix2 k n))))
          (fun k n => wo (ix2 k n)) n := by
  unfold merged lin
  pointwise [mixR, gateLo, gateHi]

/-- The hidden layer of the feed-forward: the gated unit of two products. -/
def hiddenR (h : FVec Ideal S32768x1024 .f32) (u v : FVec Ideal S1024x2688 .f32) : FVec Ideal S32768x2688 .f32 :=
  mulf (mulf (Host.dotGeneral dot_S32768x1024_S1024x2688_S32768x2688_1_0_0_1_n_n none h u) (Host.divf (broadcastInDim S32768x2688 ![] bcast_S_S32768x2688 (constant S_ .f32 0x3F800000#32)) (addf (broadcastInDim S32768x2688 ![] bcast_S_S32768x2688 (constant S_ .f32 0x3F800000#32)) (Host.exp (Host.negf (Host.dotGeneral dot_S32768x1024_S1024x2688_S32768x2688_1_0_0_1_n_n none h u)))))) (Host.dotGeneral dot_S32768x1024_S1024x2688_S32768x2688_1_0_0_1_n_n none h v)

/-- An entry of the gated hidden layer. -/
theorem hiddenR_apply (h : FVec Ideal S32768x1024 .f32) (u v : FVec Ideal S1024x2688 .f32) (R : Fin 32768) (j : Fin 2688) :
    hiddenR h u v (ix2 R j)
      = unit (lin (fun k => h (ix2 R k)) (fun k j => u (ix2 k j)) j) (lin (fun k => h (ix2 R k)) (fun k j => v (ix2 k j)) j) := by
  unfold unit lin Ideal.logistic
  pointwise [hiddenR]

/-- The half feed-forward added to the rows. -/
def ffnR (x : FVec Ideal S32768x1024 .f32) (g : FVec Ideal S1024 .f32) (u v : FVec Ideal S1024x2688 .f32) (d : FVec Ideal S2688x1024 .f32) : FVec Ideal S32768x1024 .f32 :=
  addf x (mulf (broadcastInDim S32768x1024 ![] bcast_S_S32768x1024 (constant S_ .f32 0x3F000000#32)) (Host.dotGeneral dot_S32768x2688_S2688x1024_S32768x1024_1_0_0_1_n_n none (hiddenR (normR x g) u v) d))

/-- An entry after the half feed-forward. -/
theorem ffnR_apply (x : FVec Ideal S32768x1024 .f32) (g : FVec Ideal S1024 .f32) (u v : FVec Ideal S1024x2688 .f32) (d : FVec Ideal S2688x1024 .f32) (R : Fin 32768) (n : Fin 1024) :
    ffnR x g u v d (ix2 R n)
      = ffnRow (fun k => x (ix2 R k)) (fun l => g (ix1 l)) (fun k j => u (ix2 k j)) (fun k j => v (ix2 k j)) (fun j n => d (ix2 j n)) n := by
  have e : ∀ j : Fin 2688, hiddenR (normR x g) u v (ix2 R j)
      = unit (lin (rms (fun k => x (ix2 R k)) (fun l => g (ix1 l))) (fun k j => u (ix2 k j)) j) (lin (rms (fun k => x (ix2 R k)) (fun l => g (ix1 l))) (fun k j => v (ix2 k j)) j) := fun j => by
    rw [hiddenR_apply]
    simp only [normR_apply]
  have s : ffnR x g u v d (ix2 R n) = x (ix2 R n) + half * ∑ j : Fin 2688, hiddenR (normR x g) u v (ix2 R j) * d (ix2 j n) := by
    unfold half
    pointwise [ffnR]
  rw [s]
  simp only [e]
  rfl

variable (m : (l : Loc nD τ sig) → Buf (Elt Ideal) l) (c : Dev nD)

/-- The reference's result is the half feed-forward of the merged rows. -/
theorem res_eq : Value.res_main_v57 m c
    = ffnR (mixR (m ((c.tc : Thread nD τ).loc main_arg0)) (gatesR (normR (m ((c.tc : Thread nD τ).loc main_arg0)) (m ((c.tc : Thread nD τ).loc main_arg3))) (m ((c.tc : Thread nD τ).loc main_arg4)) (m ((c.tc : Thread nD τ).loc main_arg5)))
        (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)))
      (m ((c.tc : Thread nD τ).loc main_arg9)) (m ((c.tc : Thread nD τ).loc main_arg10)) (m ((c.tc : Thread nD τ).loc main_arg11)) (m ((c.tc : Thread nD τ).loc main_arg12)) := by
  unfold Value.res_main_v57 ffnR hiddenR normR mixR gateLo gateHi gatesR
  rfl

/-- The reference's result at a row and a column. -/
theorem res_apply (R : Fin 32768) (n : Fin 1024) : Value.res_main_v57 m c (ix2 R n)
    = ffnRow (mixRow (fun k => m ((c.tc : Thread nD τ).loc main_arg0) (ix2 R k)) (fun k => m ((c.tc : Thread nD τ).loc main_arg1) (ix2 R k)) (fun k => m ((c.tc : Thread nD τ).loc main_arg2) (ix2 R k))
        (fun k => m ((c.tc : Thread nD τ).loc main_arg3) (ix1 k)) (fun k n => m ((c.tc : Thread nD τ).loc main_arg4) (ix2 k n)) (fun n => m ((c.tc : Thread nD τ).loc main_arg5) (ix1 n))
        (fun k n => m ((c.tc : Thread nD τ).loc main_arg6) (ix2 k n)) (fun k n => m ((c.tc : Thread nD τ).loc main_arg7) (ix2 k n)) (fun k n => m ((c.tc : Thread nD τ).loc main_arg8) (ix2 k n)))
      (fun k => m ((c.tc : Thread nD τ).loc main_arg9) (ix1 k)) (fun k j => m ((c.tc : Thread nD τ).loc main_arg10) (ix2 k j)) (fun k j => m ((c.tc : Thread nD τ).loc main_arg11) (ix2 k j)) (fun j n => m ((c.tc : Thread nD τ).loc main_arg12) (ix2 j n)) n := by
  rw [res_eq, ffnR_apply]
  simp only [mixR_apply, gatesR_apply, normR_apply]
  rfl

end Cert.Ref
-- ==== Proof.Block.lean ====
/- What the kernel's body computes of 256 rows: its printed payloads read at an index over the extended reals, each as
   the corresponding function of one row (Rows.lean). -/
module

public import proofs.«01_k».proof.Proof.Gen.KernelIdeal.Skeleton
public import proofs.«01_k».proof.Proof.Rows

@[expose] public section

set_option maxRecDepth 16384

noncomputable section

namespace Cert.Block

open Idealize.ShloMosaic Idealize.ShloMosaic.TcCoe Cert.KernelIdeal Cert.KernelIdeal.Gen Cert.Rows
open scoped BigOperators

variable (x : FVec Ideal S256x1024 .f32) (yhy : FVec Ideal S256x512 .bf16) (yat : FVec Ideal S256x256 .bf16)
  (gm : FVec Ideal S1x1024 .f32) (wg : FVec Ideal S1024x2048 .bf16) (bg : FVec Ideal S1x2048 .f32)
  (why : FVec Ideal S512x1024 .bf16) (wat : FVec Ideal S256x1024 .bf16) (wo : FVec Ideal S1024x1024 .bf16)
  (g : FVec Ideal S1x1024 .f32) (u0 v0 u1 v1 : FVec Ideal S1024x1280 .bf16) (tail : FVec Ideal S1024x256 .bf16)
  (d0 : FVec Ideal S1280x1024 .bf16) (d1 : FVec Ideal S1408x1024 .bf16)

/-- The gates of row `r`. -/
theorem pay4_apply (r : Fin 256) (n : Fin 2048) :
    k0_pay4 (F := Ideal) x gm wg bg (ix2 r n) = gate (rms (fun k => x (ix2 r k)) (fun k => gm (ix2 0 k))) (fun k n => wg (ix2 k n))
      (fun n => bg (ix2 0 n)) n := by
  pointwise [k0_pay4, gate, rms, lin]

/-- The first mixer's projection of row `r`. -/
theorem pay5_apply (r : Fin 256) (n : Fin 1024) :
    k0_pay5 (F := Ideal) yhy why (ix2 r n) = lin (fun k => yhy (ix2 r k)) (fun k n => why (ix2 k n)) n := by
  pointwise [k0_pay5, lin]

/-- The accumulator a product starts from. -/
def zero : FVec Ideal S256x1024 .f32 := constant S256x1024 .f32 0x00000000#32

/-- 256 rows after the merge. -/
def mixB : FVec Ideal S256x1024 .f32 := k0_pay7 x (k0_pay4 x gm wg bg) (k0_pay5 yhy why) yat (k0_pay6 wat) zero wo

/-- Row `r` after the merge. -/
theorem mixB_apply (r : Fin 256) (n : Fin 1024) :
    mixB x yhy yat gm wg bg why wat wo (ix2 r n)
      = mixRow (fun k => x (ix2 r k)) (fun k => yhy (ix2 r k)) (fun k => yat (ix2 r k)) (fun k => gm (ix2 0 k))
        (fun k n => wg (ix2 k n)) (fun n => bg (ix2 0 n)) (fun k n => why (ix2 k n)) (fun k n => wat (ix2 k n))
        (fun k n => wo (ix2 k n)) n := by
  unfold mixB k0_pay7 k0_pay6 zero mixRow lin merged
  rw [addf_apply]
  refine congrArg₂ (· + ·) rfl ?_
  pointwise
  exact Finset.sum_congr rfl fun k _ => congrArg (· * _) (congrArg₂ (· + ·)
    (congrArg₂ (· * ·) (pay4_apply x gm wg bg r _) (pay5_apply yhy why r k))
    (congrArg (· * _) (pay4_apply x gm wg bg r _)))

/-- The normalised rows the feed-forward starts from. -/
def normB : FVec Ideal S256x1024 .bf16 :=
  k0_pay8 x (k0_pay4 x gm wg bg) (k0_pay5 yhy why) yat (k0_pay6 wat) zero wo g

/-- The normalised row `r`. -/
theorem normB_apply (r : Fin 256) (k : Fin 1024) :
    normB x yhy yat gm wg bg why wat wo g (ix2 r k)
      = rms (fun k => mixB x yhy yat gm wg bg why wat wo (ix2 r k)) (fun k => g (ix2 0 k)) k := by
  unfold normB k0_pay8
  change (mulf (mulf (mixB x yhy yat gm wg bg why wat wo) _) _) (ix2 r k) = _
  unfold rms
  pointwise
  rfl

/-- The first 1280 hidden units' share of the feed-forward. -/
def firstB : FVec Ideal S256x1024 .f32 :=
  k0_pay9 x (k0_pay4 x gm wg bg) (k0_pay5 yhy why) yat (k0_pay6 wat) zero wo g u0 v0 d0

/-- The first 1280 hidden units' share, at an index. -/
theorem firstB_apply (r : Fin 256) (n : Fin 1024) :
    firstB x yhy yat gm wg bg why wat wo g u0 v0 d0 (ix2 r n)
      = ∑ j : Fin 1280, unit (∑ k : Fin 1024, normB x yhy yat gm wg bg why wat wo g (ix2 r k) * u0 (ix2 k j))
          (∑ k : Fin 1024, normB x yhy yat gm wg bg why wat wo g (ix2 r k) * v0 (ix2 k j)) * d0 (ix2 j n) := by
  unfold firstB k0_pay9
  change addf _ (matmul _ none (truncf .bf16 (mulf (mulf (matmul _ none (normB x yhy yat gm wg bg why wat wo g) _ _) _)
    (matmul _ none (normB x yhy yat gm wg bg why wat wo g) _ _)) _) _ _) (ix2 r n) = _
  unfold unit
  pointwise
  rfl

/-- What the body stores of 256 rows. -/
def outB : FVec Ideal S256x1024 .f32 :=
  k0_pay10 (mixB x yhy yat gm wg bg why wat wo) (normB x yhy yat gm wg bg why wat wo g)
    (firstB x yhy yat gm wg bg why wat wo g u0 v0 d0) u1 v1 tail d1

/-- What the body stores, at an index, from the merged rows `y`, the normalised rows `h` and the first share `s`. -/
theorem pay10_apply (y : FVec Ideal S256x1024 .f32) (h : FVec Ideal S256x1024 .bf16) (s : FVec Ideal S256x1024 .f32)
    (r : Fin 256) (n : Fin 1024) :
    k0_pay10 (F := Ideal) y h s u1 v1 tail d1 (ix2 r n)
      = y (ix2 r n) + half * (s (ix2 r n)
        + (∑ j : Fin 1280, unit (∑ k : Fin 1024, h (ix2 r k) * u1 (ix2 k j)) (∑ k : Fin 1024, h (ix2 r k) * v1 (ix2 k j))
              * d1 (ix2 ⟨j.val, by omega⟩ n)
          + ∑ j : Fin 128, unit (∑ k : Fin 1024, h (ix2 r k) * tail (ix2 k ⟨j.val, by omega⟩))
              (∑ k : Fin 1024, h (ix2 r k) * tail (ix2 k ⟨128 + j.val, by omega⟩)) * d1 (ix2 ⟨1280 + j.val, by omega⟩ n))) := by
  unfold k0_pay10 unit
  pointwise

/-- What the body stores of row `r`: the half-weight feed-forward of the merged row, when the weights' pieces are the
    three cuts of the whole matrices `U`, `V` and `D`, the last 128 columns of `U` and `V` side by side in `tail`. -/
theorem outB_apply (U V : Fin 1024 → Fin 2688 → EReal) (D : Fin 2688 → Fin 1024 → EReal)
    (hu0 : ∀ k j, u0 (ix2 k j) = U k ⟨j.val, by omega⟩) (hv0 : ∀ k j, v0 (ix2 k j) = V k ⟨j.val, by omega⟩)
    (hu1 : ∀ k j, u1 (ix2 k j) = U k ⟨1280 + j.val, by omega⟩) (hv1 : ∀ k j, v1 (ix2 k j) = V k ⟨1280 + j.val, by omega⟩)
    (htu : ∀ (k : Fin 1024) (j : Fin 128), tail (ix2 k ⟨j.val, by omega⟩) = U k ⟨2560 + j.val, by omega⟩)
    (htv : ∀ (k : Fin 1024) (j : Fin 128), tail (ix2 k ⟨128 + j.val, by omega⟩) = V k ⟨2560 + j.val, by omega⟩)
    (hd0 : ∀ j n, d0 (ix2 j n) = D ⟨j.val, by omega⟩ n) (hd1 : ∀ j n, d1 (ix2 j n) = D ⟨1280 + j.val, by omega⟩ n)
    (r : Fin 256) (n : Fin 1024) :
    outB x yhy yat gm wg bg why wat wo g u0 v0 u1 v1 tail d0 d1 (ix2 r n)
      = ffnRow (mixRow (fun k => x (ix2 r k)) (fun k => yhy (ix2 r k)) (fun k => yat (ix2 r k)) (fun k => gm (ix2 0 k))
          (fun k n => wg (ix2 k n)) (fun n => bg (ix2 0 n)) (fun k n => why (ix2 k n)) (fun k n => wat (ix2 k n))
          (fun k n => wo (ix2 k n))) (fun k => g (ix2 0 k)) U V D n := by
  have hd2 : ∀ (j : Fin 128) (n : Fin 1024), d1 (ix2 ⟨1280 + j.val, by omega⟩ n) = D ⟨2560 + j.val, by omega⟩ n :=
    fun j n => (hd1 _ n).trans (congrArg (D · n) (Fin.ext (by dsimp only; omega)))
  have hd3 : ∀ (j : Fin 1280) (n : Fin 1024), d1 (ix2 ⟨j.val, by omega⟩ n) = D ⟨1280 + j.val, by omega⟩ n := fun j n => hd1 _ n
  unfold outB ffnRow
  rw [pay10_apply, firstB_apply]
  simp only [normB_apply, mixB_apply, hu0, hv0, hu1, hv1, htu, htv, hd0, hd2, hd3]
  unfold lin
  rw [sum_cut]

end Cert.Block

end
-- ==== Proof.Pieces.lean ====
/- What the body leaves at one grid point, as functions of the point's input blocks: the output block (four stores of
   256 rows) and, at the first point, the scratch that holds the last 128 columns of the two feed-forward matrices. -/
module

public import proofs.«01_k».proof.Proof.Gen.KernelIdeal.Frame
public import proofs.«01_k».proof.Proof.Block
public import Idealize.ShloMosaic.Lib.Pipeline.Value
public import Idealize.ShloMosaic.Lib.Pipeline.ValueKit.Tiles

@[expose] public section

set_option maxRecDepth 16384

noncomputable section

namespace Cert.Pieces

open Idealize.ShloMosaic Idealize.ShloMosaic.TcCoe Cert.KernelIdeal Cert.KernelIdeal.Gen Cert.Block Cert.Rows

/-- Two zeros. -/
theorem hz : (![0, 0] : Fin 2 → Nat) = fun _ => 0 := funext fun a => by fin_cases a <;> rfl

variable (c : Dev nD) (i : grid0.Coords)
  (arg1 : Memref sig .tc .vmem S1024x1024 .f32) (harg1 : arg1.IsWhole) (arg2 : Memref sig .tc .vmem S1024x512 .bf16) (harg2 : arg2.IsWhole)
  (arg3 : Memref sig .tc .vmem S1024x256 .bf16) (harg3 : arg3.IsWhole) (arg4 : Memref sig .tc .vmem S1x1024 .f32) (harg4 : arg4.IsWhole)
  (arg5 : Memref sig .tc .vmem S1024x2048 .bf16) (harg5 : arg5.IsWhole) (arg6 : Memref sig .tc .vmem S1x2048 .f32) (harg6 : arg6.IsWhole)
  (arg7 : Memref sig .tc .vmem S512x1024 .bf16) (harg7 : arg7.IsWhole) (arg8 : Memref sig .tc .vmem S256x1024 .bf16) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S1024x2688 .bf16) (harg11 : arg11.IsWhole) (arg12 : Memref sig .tc .vmem S1024x2688 .bf16) (harg12 : arg12.IsWhole)
  (arg13 : Memref sig .tc .vmem S2688x1024 .bf16) (harg13 : arg13.IsWhole) (arg14 : Memref sig .tc .vmem S1024x1024 .f32) (harg14 : arg14.IsWhole)
  (arg15 : Memref sig .tc .vmem S1024x256 .bf16) (harg15 : arg15.IsWhole)
  (x0 : Vec Ideal S1024x1024 .f32) (x1 : Vec Ideal S1024x512 .bf16) (x2 : Vec Ideal S1024x256 .bf16) (x3 : Vec Ideal S1x1024 .f32)
  (x4 : Vec Ideal S1024x2048 .bf16) (x5 : Vec Ideal S1x2048 .f32) (x6 : Vec Ideal S512x1024 .bf16) (x7 : Vec Ideal S256x1024 .bf16)
  (x8 : Vec Ideal S1024x1024 .bf16) (x9 : Vec Ideal S1x1024 .f32) (x10 : Vec Ideal S1024x2688 .bf16) (x11 : Vec Ideal S1024x2688 .bf16)
  (x12 : Vec Ideal S2688x1024 .bf16) (xs0 : Vec Ideal S1024x256 .bf16)

/-- What the body stores at rows `o … o + 255` of the output block, the scratch holding `T`. -/
def quarter (T : FVec Ideal S1024x256 .bf16) (o : Nat) (h0 : ∀ a, (![o, 0] : Fin 2 → Nat) a + S256x1024.size a ≤ S1024x1024.size a)
    (h1 : ∀ a, (![o, 0] : Fin 2 → Nat) a + S256x512.size a ≤ S1024x512.size a)
    (h2 : ∀ a, (![o, 0] : Fin 2 → Nat) a + S256x256.size a ≤ S1024x256.size a) : FVec Ideal S256x1024 .f32 :=
  outB (View.ld x0 (Rect.unit (s := S1024x1024) ![o, 0] S256x1024.size h0)) (View.ld x1 (Rect.unit (s := S1024x512) ![o, 0] S256x512.size h1))
    (View.ld x2 (Rect.unit (s := S1024x256) ![o, 0] S256x256.size h2)) x3 x4 x5 x6 x7 x8 x9
    (View.ld x10 (Rect.unit (s := S1024x2688) ![0, 0] S1024x1280.size inb_S1024x2688_S1024x1280_0_0))
    (View.ld x11 (Rect.unit (s := S1024x2688) ![0, 0] S1024x1280.size inb_S1024x2688_S1024x1280_0_0))
    (View.ld x10 (Rect.unit (s := S1024x2688) ![0, 1280] S1024x1280.size inb_S1024x2688_S1024x1280_0_1280))
    (View.ld x11 (Rect.unit (s := S1024x2688) ![0, 1280] S1024x1280.size inb_S1024x2688_S1024x1280_0_1280)) T
    (View.ld x12 (Rect.unit (s := S2688x1024) ![0, 0] S1280x1024.size inb_S2688x1024_S1280x1024_0_0))
    (View.ld x12 (Rect.unit (s := S2688x1024) ![1280, 0] S1408x1024.size inb_S2688x1024_S1408x1024_1280_0))

/-- The output block the body leaves, the scratch holding `T`: four stores of 256 rows. -/
def block (T : FVec Ideal S1024x256 .bf16) : FVec Ideal S1024x1024 .f32 :=
  View.canon (Val := Elt Ideal) (e := .f32)
    [⟨Rect.unit (s := S1024x1024) ![768, 0] S256x1024.size inb_S1024x1024_S256x1024_768_0,
        quarter x0 x1 x2 x3 x4 x5 x6 x7 x8 x9 x10 x11 x12 T 768 inb_S1024x1024_S256x1024_768_0 inb_S1024x512_S256x512_768_0 inb_S1024x256_S256x256_768_0⟩,
      ⟨Rect.unit (s := S1024x1024) ![512, 0] S256x1024.size inb_S1024x1024_S256x1024_512_0,
        quarter x0 x1 x2 x3 x4 x5 x6 x7 x8 x9 x10 x11 x12 T 512 inb_S1024x1024_S256x1024_512_0 inb_S1024x512_S256x512_512_0 inb_S1024x256_S256x256_512_0⟩,
      ⟨Rect.unit (s := S1024x1024) ![256, 0] S256x1024.size inb_S1024x1024_S256x1024_256_0,
        quarter x0 x1 x2 x3 x4 x5 x6 x7 x8 x9 x10 x11 x12 T 256 inb_S1024x1024_S256x1024_256_0 inb_S1024x512_S256x512_256_0 inb_S1024x256_S256x256_256_0⟩,
      ⟨Rect.unit (s := S1024x1024) ![0, 0] S256x1024.size inb_S1024x1024_S256x1024_0_0,
        quarter x0 x1 x2 x3 x4 x5 x6 x7 x8 x9 x10 x11 x12 T 0 inb_S1024x1024_S256x1024_0_0 inb_S1024x512_S256x512_0_0 inb_S1024x256_S256x256_0_0⟩]

/-- The last 128 columns of the two matrices side by side: two stores. -/
def tails : FVec Ideal S1024x256 .bf16 :=
  View.canon (Val := Elt Ideal) (e := .bf16)
    [⟨Rect.unit (s := S1024x256) ![0, 128] S1024x128.size inb_S1024x256_S1024x128_0_128,
        View.ld x11 (Rect.unit (s := S1024x2688) ![0, 2560] S1024x128.size inb_S1024x2688_S1024x128_0_2560)⟩,
      ⟨Rect.unit (s := S1024x256) ![0, 0] S1024x128.size inb_S1024x256_S1024x128_0_0,
        View.ld x10 (Rect.unit (s := S1024x2688) ![0, 2560] S1024x128.size inb_S1024x2688_S1024x128_0_2560)⟩]

/-- At a later point the body leaves the block over the scratch the point before left. -/
theorem out_B (hc0 : ¬cond0_0 i) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs0 = block x0 x1 x2 x3 x4 x5 x6 x7 x8 x9 x10 x11 x12 xs0 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread]
  simp only [View.ld_unit_zero (S := S1x1024) hz, View.ld_unit_zero (S := S1024x2048) hz, View.ld_unit_zero (S := S1x2048) hz, View.ld_unit_zero (S := S512x1024) hz, View.ld_unit_zero (S := S256x1024) hz, View.ld_unit_zero (S := S1024x1024) hz, View.ld_unit_zero (S := S1024x256) hz]
  rfl

/-- At the first point the body leaves the two tails in the scratch. -/
theorem scratch_A (hc0 : cond0_0 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 = tails x10 x11 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread]
  unfold k0_pay2 k0_pay3
  simp only [shapeCast_self]
  rfl

/-- The scratch read back right after the two stores is the two tails. -/
theorem read_tails (hS : arg15.IsWhole) :
    arg15.view.readCov (Val := Elt Ideal)
      [⟨Rect.unit (s := S1024x256) ![0, 128] S1024x128.size inb_S1024x256_S1024x128_0_128,
          k0_pay3 (View.ld x11 (Rect.unit (s := S1024x2688) ![0, 2560] S1024x128.size inb_S1024x2688_S1024x128_0_2560))⟩,
        ⟨Rect.unit (s := S1024x256) ![0, 0] S1024x128.size inb_S1024x256_S1024x128_0_0,
          k0_pay2 (View.ld x10 (Rect.unit (s := S1024x2688) ![0, 2560] S1024x128.size inb_S1024x2688_S1024x128_0_2560))⟩]
      (Rect.unit (s := S1024x256) ![0, 0] S1024x256.size inb_S1024x256_S1024x256_0_0).toLoadRect = tails x10 x11 := by
  rw [View.readCov_eq_canon']
  unfold k0_pay2 k0_pay3
  simp only [shapeCast_self]
  exact View.ld_unit_zero (Val := Elt Ideal) (e := .bf16) (S := S1024x256) hz inb_S1024x256_S1024x256_0_0 (tails x10 x11)

/-- At the first point the body leaves the block over the scratch it has just written. -/
theorem out_A (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 = block x0 x1 x2 x3 x4 x5 x6 x7 x8 x9 x10 x11 x12 (tails x10 x11) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread]
  simp only [View.ld_unit_zero (S := S1x1024) hz, View.ld_unit_zero (S := S1024x2048) hz, View.ld_unit_zero (S := S1x2048) hz, View.ld_unit_zero (S := S512x1024) hz, View.ld_unit_zero (S := S256x1024) hz, View.ld_unit_zero (S := S1024x1024) hz, View.ld_unit_zero (S := S1024x256) hz]
  simp only [read_tails arg15 x10 x11 harg15]
  rfl

/-- What the block holds at row `R`: the layer's row function of the point's input blocks at that row. -/
def rowOut (R : Fin 1024) (n : Fin 1024) : EReal :=
  ffnRow (mixRow (fun k => x0 (ix2 R k)) (fun k => x1 (ix2 R k)) (fun k => x2 (ix2 R k)) (fun k => x3 (ix2 0 k))
      (fun k n => x4 (ix2 k n)) (fun n => x5 (ix2 0 n)) (fun k n => x6 (ix2 k n)) (fun k n => x7 (ix2 k n))
      (fun k n => x8 (ix2 k n))) (fun k => x9 (ix2 0 k)) (fun k j => x10 (ix2 k j)) (fun k j => x11 (ix2 k j))
    (fun j n => x12 (ix2 j n)) n

/-- The tails at a column of the first half: the last 128 columns of the first matrix. -/
theorem tails_lo (k : Fin 1024) (j : Fin 128) : tails x10 x11 (ix2 k ⟨j.val, by omega⟩) = x10 (ix2 k ⟨2560 + j.val, by omega⟩) := by
  refine View.canon_eq_of_allAt _ _ _ (View.cover_of_tiled_head _ _ _ rfl _) ?_
  refine View.allAt_cons_unit _ _ _ _ _ (fun x hx => ?_) (View.allAt_cons_unit _ _ _ _ _ (fun x hx => ?_) (View.allAt_nil _ _))
  · have h := hx 1
    have : j.val = 128 + (x 1 : Nat) := h
    omega
  · have h0 : k.val = 0 + (x 0 : Nat) := hx 0
    have h1 : j.val = 0 + (x 1 : Nat) := hx 1
    refine View.ld_unit_apply_of (Val := Elt Ideal) (e := .bf16) (S := S1024x2688) x10 ![0, 2560] S1024x128.size _ x _ fun a => ?_
    match a with
    | ⟨0, _⟩ => exact h0
    | ⟨1, _⟩ => show 2560 + j.val = 2560 + (x 1 : Nat); omega

/-- The tails at a column of the second half: the last 128 columns of the second matrix. -/
theorem tails_hi (k : Fin 1024) (j : Fin 128) : tails x10 x11 (ix2 k ⟨128 + j.val, by omega⟩) = x11 (ix2 k ⟨2560 + j.val, by omega⟩) := by
  refine View.canon_eq_of_allAt _ _ _ (View.cover_of_tiled_head _ _ _ rfl _) ?_
  refine View.allAt_cons_unit _ _ _ _ _ (fun x hx => ?_) (View.allAt_cons_unit _ _ _ _ _ (fun x hx => ?_) (View.allAt_nil _ _))
  · have h0 : k.val = 0 + (x 0 : Nat) := hx 0
    have h1 : 128 + j.val = 128 + (x 1 : Nat) := hx 1
    refine View.ld_unit_apply_of (Val := Elt Ideal) (e := .bf16) (S := S1024x2688) x11 ![0, 2560] S1024x128.size _ x _ fun a => ?_
    match a with
    | ⟨0, _⟩ => exact h0
    | ⟨1, _⟩ => show 2560 + j.val = 2560 + (x 1 : Nat); omega
  · have h1 : 128 + j.val = 0 + (x 1 : Nat) := hx 1
    have h2 : (x 1 : Nat) < 128 := (x 1).isLt
    omega

/-- A load of a rectangle of a rank-2 block, at an index: the block at the rectangle's offsets plus the index. -/
theorem ld_ix2 {e : EltTy} {A B a b : Nat} (X : (⟨2, ![A, B]⟩ : Shape).Idx → Elt Ideal e) (o p : Nat)
    (inb : ∀ d, (![o, p] : Fin 2 → Nat) d + (![a, b] : Fin 2 → Nat) d ≤ (⟨2, ![A, B]⟩ : Shape).size d) (r : Fin a) (n : Fin b)
    (h0 : o + r.val < A) (h1 : p + n.val < B) :
    View.ld X (Rect.unit (s := ⟨2, ![A, B]⟩) ![o, p] ![a, b] inb) (ix2 r n) = X (ix2 ⟨o + r.val, h0⟩ ⟨p + n.val, h1⟩) :=
  View.ld_unit_apply_of _ _ _ _ _ _ fun d => match d with
    | ⟨0, _⟩ => rfl
    | ⟨1, _⟩ => rfl

/-- The 256 rows stored at offset `o`, at an index. -/
theorem quarter_apply (o : Nat) (h0 h1 h2) (r : Fin 256) (n : Fin 1024) (ho : o + r.val < 1024) :
    quarter x0 x1 x2 x3 x4 x5 x6 x7 x8 x9 x10 x11 x12 (tails x10 x11) o h0 h1 h2 (ix2 r n) = rowOut x0 x1 x2 x3 x4 x5 x6 x7 x8 x9 x10 x11 x12 ⟨o + r.val, ho⟩ n := by
  have e0 : ∀ k : Fin 1024, View.ld x0 (Rect.unit (s := S1024x1024) ![o, 0] S256x1024.size h0) (ix2 r k) = x0 (ix2 ⟨o + r.val, ho⟩ k) :=
    fun k => (ld_ix2 x0 o 0 h0 r k ho (by omega)).trans (by simp only [Nat.zero_add])
  have e1 : ∀ k : Fin 512, View.ld x1 (Rect.unit (s := S1024x512) ![o, 0] S256x512.size h1) (ix2 r k) = x1 (ix2 ⟨o + r.val, ho⟩ k) :=
    fun k => (ld_ix2 x1 o 0 h1 r k ho (by omega)).trans (by simp only [Nat.zero_add])
  have e2 : ∀ k : Fin 256, View.ld x2 (Rect.unit (s := S1024x256) ![o, 0] S256x256.size h2) (ix2 r k) = x2 (ix2 ⟨o + r.val, ho⟩ k) :=
    fun k => (ld_ix2 x2 o 0 h2 r k ho (by omega)).trans (by simp only [Nat.zero_add])
  have z0 : ∀ (X : Vec Ideal S1024x2688 .bf16) (k : Fin 1024) (j : Fin 1280),
      View.ld X (Rect.unit (s := S1024x2688) ![0, 0] S1024x1280.size inb_S1024x2688_S1024x1280_0_0) (ix2 k j) = X (ix2 k ⟨j.val, by omega⟩) :=
    fun X k j => (ld_ix2 X 0 0 inb_S1024x2688_S1024x1280_0_0 k j (by omega) (by omega)).trans (by simp only [Nat.zero_add])
  have z1 : ∀ (X : Vec Ideal S1024x2688 .bf16) (k : Fin 1024) (j : Fin 1280),
      View.ld X (Rect.unit (s := S1024x2688) ![0, 1280] S1024x1280.size inb_S1024x2688_S1024x1280_0_1280) (ix2 k j) = X (ix2 k ⟨1280 + j.val, by omega⟩) :=
    fun X k j => (ld_ix2 X 0 1280 inb_S1024x2688_S1024x1280_0_1280 k j (by omega) (by omega)).trans (by simp only [Nat.zero_add])
  have w0 : ∀ (j : Fin 1280) (n : Fin 1024),
      View.ld x12 (Rect.unit (s := S2688x1024) ![0, 0] S1280x1024.size inb_S2688x1024_S1280x1024_0_0) (ix2 j n) = x12 (ix2 ⟨j.val, by omega⟩ n) :=
    fun j n => (ld_ix2 x12 0 0 inb_S2688x1024_S1280x1024_0_0 j n (by omega) (by omega)).trans (by simp only [Nat.zero_add])
  have w1 : ∀ (j : Fin 1408) (n : Fin 1024),
      View.ld x12 (Rect.unit (s := S2688x1024) ![1280, 0] S1408x1024.size inb_S2688x1024_S1408x1024_1280_0) (ix2 j n) = x12 (ix2 ⟨1280 + j.val, by omega⟩ n) :=
    fun j n => (ld_ix2 x12 1280 0 inb_S2688x1024_S1408x1024_1280_0 j n (by omega) (by omega)).trans (by simp only [Nat.zero_add])
  unfold quarter rowOut
  rw [outB_apply (U := fun k j => x10 (ix2 k j)) (V := fun k j => x11 (ix2 k j)) (D := fun j n => x12 (ix2 j n))
    (hu0 := z0 x10) (hv0 := z0 x11) (hu1 := z1 x10) (hv1 := z1 x11) (htu := tails_lo x10 x11) (htv := tails_hi x10 x11) (hd0 := w0) (hd1 := w1)]
  simp only [e0, e1, e2]

/-- The output block over the two tails, at an index. -/
theorem block_apply (R : Fin 1024) (n : Fin 1024) : block x0 x1 x2 x3 x4 x5 x6 x7 x8 x9 x10 x11 x12 (tails x10 x11) (ix2 R n) = rowOut x0 x1 x2 x3 x4 x5 x6 x7 x8 x9 x10 x11 x12 R n := by
  have tile : ∀ (o : Nat) (h0 h1 h2) (hle : o ≤ 768),
      View.TileAt (Val := Elt Ideal) (e := .f32) (S := S1024x1024) (ix2 R n) ![o, 0] S256x1024.size (quarter x0 x1 x2 x3 x4 x5 x6 x7 x8 x9 x10 x11 x12 (tails x10 x11) o h0 h1 h2) (rowOut x0 x1 x2 x3 x4 x5 x6 x7 x8 x9 x10 x11 x12 R n) := by
    intro o h0 h1 h2 hle x hx
    have a0 : R.val = o + (x 0 : Nat) := hx 0
    have a1 : n.val = 0 + (x 1 : Nat) := hx 1
    have ex : x = (ix2 (⟨(x 0 : Nat), (x 0).isLt⟩ : Fin 256) (⟨(x 1 : Nat), (x 1).isLt⟩ : Fin 1024) : S256x1024.Idx) := by
      funext a; match a with
      | ⟨0, _⟩ => rfl
      | ⟨1, _⟩ => rfl
    have hb : (x 0 : Nat) < 256 := (x 0).isLt
    have ho : o + (x 0 : Nat) < 1024 := by omega
    exact ((congrArg (quarter x0 x1 x2 x3 x4 x5 x6 x7 x8 x9 x10 x11 x12 (tails x10 x11) o h0 h1 h2) ex).trans (quarter_apply x0 x1 x2 x3 x4 x5 x6 x7 x8 x9 x10 x11 x12 o h0 h1 h2 _ _ ho)).trans
      (congrArg₂ (rowOut x0 x1 x2 x3 x4 x5 x6 x7 x8 x9 x10 x11 x12) (Fin.ext a0.symm) (Fin.ext ((Nat.zero_add _).symm.trans a1.symm)))
  refine View.canon_eq_of_allAt _ _ _ (View.cover_of_tiled_head _ _ _ rfl _) ?_
  exact View.allAt_cons_unit _ _ _ _ _ (tile 768 _ _ _ (by omega)) (View.allAt_cons_unit _ _ _ _ _ (tile 512 _ _ _ (by omega))
    (View.allAt_cons_unit _ _ _ _ _ (tile 256 _ _ _ (by omega)) (View.allAt_cons_unit _ _ _ _ _ (tile 0 _ _ _ (by omega)) (View.allAt_nil _ _))))

end Cert.Pieces

end
-- ==== Proof.Windows.lean ====
/- Reading a rank-2 array through a window: the entry a window's index lands on, for a window over the whole array and
   for a window of some rows. -/
module

public import Idealize.ShloMosaic.Lib.Pointwise

@[expose] public section

noncomputable section

namespace Cert.Windows

open Idealize.ShloMosaic

/-- A rank-2 index with the coordinates `k` and `n`. -/
theorem ix2_of {A B : Nat} (f : (⟨2, ![A, B]⟩ : Shape).Idx) (k : Fin A) (n : Fin B) (h0 : (f 0).val = k.val) (h1 : (f 1).val = n.val) : f = ix2 k n :=
  funext fun a => Fin.ext (match a with
    | ⟨0, _⟩ => h0
    | ⟨1, _⟩ => h1)

/-- A window over the whole array, standing at block `(p, q) = (0, 0)`, reads the array's own entry. -/
theorem read_whole {A B : Nat} (x : (⟨2, ![A, B]⟩ : Shape).Idx → EReal) (f : (⟨2, ![A, B]⟩ : Shape).Idx) (k : Fin A) (n : Fin B) {p q : Nat}
    (h : p = 0 ∧ q = 0) (h0 : (f 0).val = p * A + 1 * k.val) (h1 : (f 1).val = q * B + 1 * n.val) : x f = x (ix2 k n) := by
  obtain ⟨rfl, rfl⟩ := h
  exact congrArg x (ix2_of f k n (h0.trans (by omega)) (h1.trans (by omega)))

/-- A window of `T` rows, standing at block `(p, q) = (t, 0)`, reads the array's row `T t + r`. -/
theorem read_rows {A B : Nat} (T : Nat) (x : (⟨2, ![A, B]⟩ : Shape).Idx → EReal) (f : (⟨2, ![A, B]⟩ : Shape).Idx) (r : Fin T) (n : Fin B) {p q t : Nat}
    (h : p = t ∧ q = 0) (hlt : T * t + r.val < A) (h0 : (f 0).val = p * T + 1 * r.val) (h1 : (f 1).val = q * B + 1 * n.val) :
    x f = x (ix2 ⟨T * t + r.val, hlt⟩ n) := by
  obtain ⟨rfl, rfl⟩ := h
  exact congrArg x (ix2_of f _ n (h0.trans (by rw [Nat.mul_comm, Nat.one_mul])) (h1.trans (by omega)))

end Cert.Windows

end
-- ==== Proof.Inputs.lean ====
/- What each input window holds at a grid point, entry by entry, in terms of the launch's arguments: the first three
   windows step by 1024 rows, the others hold their whole array at every point. -/
module

public import proofs.«01_k».proof.Proof.Gen.KernelIdeal.Frame
public import proofs.«01_k».proof.Proof.Rows
public import proofs.«01_k».proof.Proof.Windows
public import Idealize.ShloMosaic.Lib.StableHlo.ReadAt

@[expose] public section

set_option maxRecDepth 16384

noncomputable section

namespace Cert.Inputs

open Idealize.ShloMosaic Idealize.ShloMosaic.TcCoe Cert.KernelIdeal Cert.KernelIdeal.Gen Cert.Windows

variable (m : (l : Loc nD τ sig) → Buf (Elt Ideal) l) (c : Dev nD)

/-- The block where window 0 stands at each point. -/
theorem at0 : ∀ t : Fin grid0.N, win0_0.index t 0 = t.val ∧ win0_0.index t 1 = 0 := by decide +kernel

/-- Window 0 at point `t` holds the rows `1024 t …` of argument 0. -/
theorem blk0 (t : Fin cfg0.N) (r : Fin 1024) (k : Fin 1024) (h : 1024 * t.val + r.val < 32768) :
    iblk m c 0 t (ix2 r k) = m ((c : Thread nD τ).loc main_arg0) (ix2 (⟨1024 * t.val + r.val, h⟩ : Fin 32768) k) := by
  unfold iblk
  rw [View.read_apply]
  exact (read_rows 1024 (V m c main_arg0) _ r k (at0 t) h rfl rfl).trans (by rw [V_main_arg0])

/-- The block where window 1 stands at each point. -/
theorem at1 : ∀ t : Fin grid0.N, win0_1.index t 0 = t.val ∧ win0_1.index t 1 = 0 := by decide +kernel

/-- Window 1 at point `t` holds the rows `1024 t …` of argument 1. -/
theorem blk1 (t : Fin cfg0.N) (r : Fin 1024) (k : Fin 512) (h : 1024 * t.val + r.val < 32768) :
    iblk m c 1 t (ix2 r k) = m ((c : Thread nD τ).loc main_arg1) (ix2 (⟨1024 * t.val + r.val, h⟩ : Fin 32768) k) := by
  unfold iblk
  rw [View.read_apply]
  exact (read_rows 1024 (V m c main_arg1) _ r k (at1 t) h rfl rfl).trans (by rw [V_main_arg1])

/-- The block where window 2 stands at each point. -/
theorem at2 : ∀ t : Fin grid0.N, win0_2.index t 0 = t.val ∧ win0_2.index t 1 = 0 := by decide +kernel

/-- Window 2 at point `t` holds the rows `1024 t …` of argument 2. -/
theorem blk2 (t : Fin cfg0.N) (r : Fin 1024) (k : Fin 256) (h : 1024 * t.val + r.val < 32768) :
    iblk m c 2 t (ix2 r k) = m ((c : Thread nD τ).loc main_arg2) (ix2 (⟨1024 * t.val + r.val, h⟩ : Fin 32768) k) := by
  unfold iblk
  rw [View.read_apply]
  exact (read_rows 1024 (V m c main_arg2) _ r k (at2 t) h rfl rfl).trans (by rw [V_main_arg2])

/-- The block where window 3 stands at each point. -/
theorem at3 : ∀ t : Fin grid0.N, win0_3.index t 0 = 0 ∧ win0_3.index t 1 = 0 := by decide +kernel

/-- The array behind window 3, as the host leaves it before the launch. -/
theorem host3 (k : Fin 1024) : V m c main_v0 (ix2 (0 : Fin 1) k) = m ((c : Thread nD τ).loc main_arg3) (ix1 k) := by
  unfold V
  after_reads_at

/-- Window 3 holds argument 3 as a row. -/
theorem blk3 (t : Fin cfg0.N) (k : Fin 1024) :
    iblk m c 3 t (ix2 (0 : Fin 1) k) = m ((c : Thread nD τ).loc main_arg3) (ix1 k) := by
  unfold iblk
  rw [View.read_apply]
  exact (read_whole (V m c main_v0) _ 0 k (at3 t) rfl rfl).trans (host3 m c k)

/-- The block where window 4 stands at each point. -/
theorem at4 : ∀ t : Fin grid0.N, win0_4.index t 0 = 0 ∧ win0_4.index t 1 = 0 := by decide +kernel

/-- The array behind window 4, as the host leaves it before the launch. -/
theorem host4 (k : Fin 1024) (n : Fin 2048) : V m c main_v1 (ix2 k n) = m ((c : Thread nD τ).loc main_arg4) (ix2 k n) := by
  unfold V
  after_reads_at

/-- Window 4 holds argument 4. -/
theorem blk4 (t : Fin cfg0.N) (k : Fin 1024) (n : Fin 2048) :
    iblk m c 4 t (ix2 k n) = m ((c : Thread nD τ).loc main_arg4) (ix2 k n) := by
  unfold iblk
  rw [View.read_apply]
  exact (read_whole (V m c main_v1) _ k n (at4 t) rfl rfl).trans (host4 m c k n)

/-- The block where window 5 stands at each point. -/
theorem at5 : ∀ t : Fin grid0.N, win0_5.index t 0 = 0 ∧ win0_5.index t 1 = 0 := by decide +kernel

/-- The array behind window 5, as the host leaves it before the launch. -/
theorem host5 (k : Fin 2048) : V m c main_v2 (ix2 (0 : Fin 1) k) = m ((c : Thread nD τ).loc main_arg5) (ix1 k) := by
  unfold V
  after_reads_at

/-- Window 5 holds argument 5 as a row. -/
theorem blk5 (t : Fin cfg0.N) (k : Fin 2048) :
    iblk m c 5 t (ix2 (0 : Fin 1) k) = m ((c : Thread nD τ).loc main_arg5) (ix1 k) := by
  unfold iblk
  rw [View.read_apply]
  exact (read_whole (V m c main_v2) _ 0 k (at5 t) rfl rfl).trans (host5 m c k)

/-- The block where window 6 stands at each point. -/
theorem at6 : ∀ t : Fin grid0.N, win0_6.index t 0 = 0 ∧ win0_6.index t 1 = 0 := by decide +kernel

/-- The array behind window 6, as the host leaves it before the launch. -/
theorem host6 (k : Fin 512) (n : Fin 1024) : V m c main_v3 (ix2 k n) = m ((c : Thread nD τ).loc main_arg6) (ix2 k n) := by
  unfold V
  after_reads_at

/-- Window 6 holds argument 6. -/
theorem blk6 (t : Fin cfg0.N) (k : Fin 512) (n : Fin 1024) :
    iblk m c 6 t (ix2 k n) = m ((c : Thread nD τ).loc main_arg6) (ix2 k n) := by
  unfold iblk
  rw [View.read_apply]
  exact (read_whole (V m c main_v3) _ k n (at6 t) rfl rfl).trans (host6 m c k n)

/-- The block where window 7 stands at each point. -/
theorem at7 : ∀ t : Fin grid0.N, win0_7.index t 0 = 0 ∧ win0_7.index t 1 = 0 := by decide +kernel

/-- The array behind window 7, as the host leaves it before the launch. -/
theorem host7 (k : Fin 256) (n : Fin 1024) : V m c main_v4 (ix2 k n) = m ((c : Thread nD τ).loc main_arg7) (ix2 k n) := by
  unfold V
  after_reads_at

/-- Window 7 holds argument 7. -/
theorem blk7 (t : Fin cfg0.N) (k : Fin 256) (n : Fin 1024) :
    iblk m c 7 t (ix2 k n) = m ((c : Thread nD τ).loc main_arg7) (ix2 k n) := by
  unfold iblk
  rw [View.read_apply]
  exact (read_whole (V m c main_v4) _ k n (at7 t) rfl rfl).trans (host7 m c k n)

/-- The block where window 8 stands at each point. -/
theorem at8 : ∀ t : Fin grid0.N, win0_8.index t 0 = 0 ∧ win0_8.index t 1 = 0 := by decide +kernel

/-- The array behind window 8, as the host leaves it before the launch. -/
theorem host8 (k : Fin 1024) (n : Fin 1024) : V m c main_v5 (ix2 k n) = m ((c : Thread nD τ).loc main_arg8) (ix2 k n) := by
  unfold V
  after_reads_at

/-- Window 8 holds argument 8. -/
theorem blk8 (t : Fin cfg0.N) (k : Fin 1024) (n : Fin 1024) :
    iblk m c 8 t (ix2 k n) = m ((c : Thread nD τ).loc main_arg8) (ix2 k n) := by
  unfold iblk
  rw [View.read_apply]
  exact (read_whole (V m c main_v5) _ k n (at8 t) rfl rfl).trans (host8 m c k n)

/-- The block where window 9 stands at each point. -/
theorem at9 : ∀ t : Fin grid0.N, win0_9.index t 0 = 0 ∧ win0_9.index t 1 = 0 := by decide +kernel

/-- The array behind window 9, as the host leaves it before the launch. -/
theorem host9 (k : Fin 1024) : V m c main_v6 (ix2 (0 : Fin 1) k) = m ((c : Thread nD τ).loc main_arg9) (ix1 k) := by
  unfold V
  after_reads_at

/-- Window 9 holds argument 9 as a row. -/
theorem blk9 (t : Fin cfg0.N) (k : Fin 1024) :
    iblk m c 9 t (ix2 (0 : Fin 1) k) = m ((c : Thread nD τ).loc main_arg9) (ix1 k) := by
  unfold iblk
  rw [View.read_apply]
  exact (read_whole (V m c main_v6) _ 0 k (at9 t) rfl rfl).trans (host9 m c k)

/-- The block where window 10 stands at each point. -/
theorem at10 : ∀ t : Fin grid0.N, win0_10.index t 0 = 0 ∧ win0_10.index t 1 = 0 := by decide +kernel

/-- The array behind window 10, as the host leaves it before the launch. -/
theorem host10 (k : Fin 1024) (n : Fin 2688) : V m c main_v7 (ix2 k n) = m ((c : Thread nD τ).loc main_arg10) (ix2 k n) := by
  unfold V
  after_reads_at

/-- Window 10 holds argument 10. -/
theorem blk10 (t : Fin cfg0.N) (k : Fin 1024) (n : Fin 2688) :
    iblk m c 10 t (ix2 k n) = m ((c : Thread nD τ).loc main_arg10) (ix2 k n) := by
  unfold iblk
  rw [View.read_apply]
  exact (read_whole (V m c main_v7) _ k n (at10 t) rfl rfl).trans (host10 m c k n)

/-- The block where window 11 stands at each point. -/
theorem at11 : ∀ t : Fin grid0.N, win0_11.index t 0 = 0 ∧ win0_11.index t 1 = 0 := by decide +kernel

/-- The array behind window 11, as the host leaves it before the launch. -/
theorem host11 (k : Fin 1024) (n : Fin 2688) : V m c main_v8 (ix2 k n) = m ((c : Thread nD τ).loc main_arg11) (ix2 k n) := by
  unfold V
  after_reads_at

/-- Window 11 holds argument 11. -/
theorem blk11 (t : Fin cfg0.N) (k : Fin 1024) (n : Fin 2688) :
    iblk m c 11 t (ix2 k n) = m ((c : Thread nD τ).loc main_arg11) (ix2 k n) := by
  unfold iblk
  rw [View.read_apply]
  exact (read_whole (V m c main_v8) _ k n (at11 t) rfl rfl).trans (host11 m c k n)

/-- The block where window 12 stands at each point. -/
theorem at12 : ∀ t : Fin grid0.N, win0_12.index t 0 = 0 ∧ win0_12.index t 1 = 0 := by decide +kernel

/-- The array behind window 12, as the host leaves it before the launch. -/
theorem host12 (k : Fin 2688) (n : Fin 1024) : V m c main_v9 (ix2 k n) = m ((c : Thread nD τ).loc main_arg12) (ix2 k n) := by
  unfold V
  after_reads_at

/-- Window 12 holds argument 12. -/
theorem blk12 (t : Fin cfg0.N) (k : Fin 2688) (n : Fin 1024) :
    iblk m c 12 t (ix2 k n) = m ((c : Thread nD τ).loc main_arg12) (ix2 k n) := by
  unfold iblk
  rw [View.read_apply]
  exact (read_whole (V m c main_v9) _ k n (at12 t) rfl rfl).trans (host12 m c k n)

end Cert.Inputs
-- ==== Proof.Fold.lean ====
/- What the kernel's output array holds: at every grid point the block of output rows is the row function of the
   arguments, with the scratch holding the same tails of the two feed-forward matrices throughout. -/
module

public import proofs.«01_k».proof.Proof.Gen.KernelIdeal.Value
public import proofs.«01_k».proof.Proof.Pieces
public import proofs.«01_k».proof.Proof.Inputs

@[expose] public section

set_option maxRecDepth 16384

noncomputable section

namespace Cert.Fold

open Idealize.ShloMosaic Idealize.ShloMosaic.TcCoe Cert.KernelIdeal Cert.KernelIdeal.Gen Cert.Rows Cert.Pieces Cert.Inputs

variable (m : (l : Loc nD τ sig) → Buf (Elt Ideal) l) (c : Dev nD)

/-- The tails at a point depend on the two matrices, not on the point. -/
theorem same10 (t u : Fin cfg0.N) : iblk m c 10 t = iblk m c 10 u := by
  funext j
  obtain ⟨k, n, rfl⟩ : ∃ (k : Fin 1024) (n : Fin 2688), j = ix2 k n := ⟨j 0, j 1, by funext a; match a with | ⟨0, _⟩ => rfl | ⟨1, _⟩ => rfl⟩
  exact (blk10 m c t k n).trans (blk10 m c u k n).symm

/-- The same of the second matrix. -/
theorem same11 (t u : Fin cfg0.N) : iblk m c 11 t = iblk m c 11 u := by
  funext j
  obtain ⟨k, n, rfl⟩ : ∃ (k : Fin 1024) (n : Fin 2688), j = ix2 k n := ⟨j 0, j 1, by funext a; match a with | ⟨0, _⟩ => rfl | ⟨1, _⟩ => rfl⟩
  exact (blk11 m c t k n).trans (blk11 m c u k n).symm

/-- The first part of a known pair. -/
theorem fst_of {A B : Type} {p : A × B} {a : A} {b : B} (h : p = (a, b)) : p.1 = a := h ▸ rfl

/-- The second part of a known pair. -/
theorem snd_of {A B : Type} {p : A × B} {a : A} {b : B} (h : p = (a, b)) : p.2 = b := h ▸ rfl

/-- At the first point the scratch is written with the tails. -/
theorem scratch_first (t : Fin cfg0.N) (h0 : t.val % 32 = 0) :
    (outsAt0 m c t.val t.isLt).2 = tails (iblk m c 10 t) (iblk m c 11 t) :=
  (snd_of (outsAt0_A m c t h0)).trans
    (scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0))

/-- At a later point it is left as it was. -/
theorem scratch_later (t : Fin cfg0.N) (h0 : ¬ t.val % 32 = 0) :
    (outsAt0 m c t.val t.isLt).2 = (outsAt0 m c (t.val - 1) (Nat.lt_of_le_of_lt (Nat.sub_le _ _) t.isLt)).2 :=
  (snd_of (outsAt0_B m c t h0)).trans rfl

/-- After every point the scratch holds the tails of the two feed-forward matrices. -/
theorem scratch_at : ∀ (n : Nat) (hn : n < cfg0.N), (outsAt0 m c n hn).2 = tails (iblk m c 10 ⟨n, hn⟩) (iblk m c 11 ⟨n, hn⟩)
  | 0, hn => scratch_first m c ⟨0, hn⟩ rfl
  | n + 1, hn => by
    have hN : n + 1 < 32 := lt_of_lt_of_eq hn N_0
    have h0 : ¬ (n + 1) % 32 = 0 := by omega
    refine (scratch_later m c ⟨n + 1, hn⟩ h0).trans ((scratch_at n (Nat.lt_of_succ_lt hn)).trans ?_)
    rw [same10 m c ⟨n, _⟩ ⟨n + 1, hn⟩, same11 m c ⟨n, _⟩ ⟨n + 1, hn⟩]

/-- After every point the output block holds `block` of the point's input blocks and the tails. -/
theorem out_at (t : Fin cfg0.N) : (outsAt0 m c t.val t.isLt).1
    = block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
        (tails (iblk m c 10 t) (iblk m c 11 t)) := by
  by_cases h0 : t.val % 32 = 0
  · exact (fst_of (outsAt0_A m c t h0)).trans
      (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0))
  · refine (fst_of (outsAt0_B m c t h0)).trans
      ((out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2 (fun h => h0 ((hcond0_0 t).mp h))).trans ?_)
    rw [scratch_at m c (t.val - 1), same10 m c ⟨t.val - 1, _⟩ t, same11 m c ⟨t.val - 1, _⟩ t]

/-- The output rows at point `t`, entry by entry, in terms of the arguments. -/
theorem row_at (t : Fin cfg0.N) (r : Fin 1024) (n : Fin 1024) (R : Fin 32768) (hR : R.val = 1024 * t.val + r.val) :
    (outsAt0 m c t.val t.isLt).1 (ix2 r n)
    = ffnRow (mixRow (fun k => m ((c : Thread nD τ).loc main_arg0) (ix2 R k)) (fun k => m ((c : Thread nD τ).loc main_arg1) (ix2 R k)) (fun k => m ((c : Thread nD τ).loc main_arg2) (ix2 R k))
        (fun k => m ((c : Thread nD τ).loc main_arg3) (ix1 k)) (fun k n => m ((c : Thread nD τ).loc main_arg4) (ix2 k n)) (fun n => m ((c : Thread nD τ).loc main_arg5) (ix1 n))
        (fun k n => m ((c : Thread nD τ).loc main_arg6) (ix2 k n)) (fun k n => m ((c : Thread nD τ).loc main_arg7) (ix2 k n)) (fun k n => m ((c : Thread nD τ).loc main_arg8) (ix2 k n)))
      (fun k => m ((c : Thread nD τ).loc main_arg9) (ix1 k)) (fun k j => m ((c : Thread nD τ).loc main_arg10) (ix2 k j)) (fun k j => m ((c : Thread nD τ).loc main_arg11) (ix2 k j)) (fun j n => m ((c : Thread nD τ).loc main_arg12) (ix2 j n)) n := by
  have hlt : 1024 * t.val + r.val < 32768 := hR ▸ R.isLt
  obtain rfl : R = ⟨1024 * t.val + r.val, hlt⟩ := Fin.ext hR
  rw [out_at, block_apply]
  unfold rowOut
  simp only [blk3 m c t, blk4 m c t, blk5 m c t, blk6 m c t, blk7 m c t, blk8 m c t, blk9 m c t, blk10 m c t, blk11 m c t, blk12 m c t]
  simp only [fun k => blk0 m c t r k hlt, fun k => blk1 m c t r k hlt, fun k => blk2 m c t r k hlt]

/-- The kernel's output array at a row and a column. -/
theorem G13_apply (R : Fin 32768) (n : Fin 1024) : Value.G13 m c (ix2 R n)
    = ffnRow (mixRow (fun k => m ((c : Thread nD τ).loc main_arg0) (ix2 R k)) (fun k => m ((c : Thread nD τ).loc main_arg1) (ix2 R k)) (fun k => m ((c : Thread nD τ).loc main_arg2) (ix2 R k))
        (fun k => m ((c : Thread nD τ).loc main_arg3) (ix1 k)) (fun k n => m ((c : Thread nD τ).loc main_arg4) (ix2 k n)) (fun n => m ((c : Thread nD τ).loc main_arg5) (ix1 n))
        (fun k n => m ((c : Thread nD τ).loc main_arg6) (ix2 k n)) (fun k n => m ((c : Thread nD τ).loc main_arg7) (ix2 k n)) (fun k n => m ((c : Thread nD τ).loc main_arg8) (ix2 k n)))
      (fun k => m ((c : Thread nD τ).loc main_arg9) (ix1 k)) (fun k j => m ((c : Thread nD τ).loc main_arg10) (ix2 k j)) (fun k j => m ((c : Thread nD τ).loc main_arg11) (ix2 k j)) (fun j n => m ((c : Thread nD τ).loc main_arg12) (ix2 j n)) n := by
  have hp : Value.pt13Of (ix2 R n) = R.val / 1024 := by
    show 1 * (R.val / 1024 - 0) + 1 * (n.val / 1024 - 0) = R.val / 1024
    have := n.isLt
    omega
  have hlt : R.val / 1024 < cfg0.N := by rw [show cfg0.N = 32 from N_0]; omega
  unfold Value.G13
  rw [dif_pos (hp ▸ hlt)]
  rw [← Value.outsAt0_sweep m c (Value.pt13Of (ix2 R n)) (hp ▸ hlt)]
  have hl : Value.loc13Of (ix2 R n) = ix2 (⟨R.val % 1024, Nat.mod_lt _ (by omega)⟩ : Fin 1024) n := by
    funext a
    match a with
    | ⟨0, _⟩ => rfl
    | ⟨1, _⟩ => exact Fin.ext (Nat.mod_eq_of_lt n.isLt)
  rw [hl]
  exact row_at m c ⟨Value.pt13Of (ix2 R n), hp ▸ hlt⟩ _ n R (by
    show R.val = 1024 * Value.pt13Of (ix2 R n) + R.val % 1024
    rw [hp]; omega)

end Cert.Fold
-- ==== Proof.Heads.lean ====
/- The attention columns of one projected row, over the extended reals: heads of 64 lanes, the queries and keys
   normalised by their own mean square. Two heads lie side by side in 128 lanes and the second one's squares may be
   had as all the squares less the first one's: that needs the lanes finite, and they are wherever the gain of the
   normalisation and the projection are. -/
module

public import proofs.«01_k».proof.Proof.Rows

@[expose] public section

noncomputable section

namespace Cert.Heads

open Idealize.ShloMosaic Cert.Rows
open scoped BigOperators

/-- The extended reals that are real numbers. -/
def IsReal (x : EReal) : Prop := ∃ r : ℝ, x = (r : EReal)

/-- A product of reals is real. -/
theorem IsReal.mul {x y : EReal} : IsReal x → IsReal y → IsReal (x * y) := by
  rintro ⟨a, rfl⟩ ⟨b, rfl⟩
  exact ⟨a * b, (EReal.coe_mul a b).symm⟩

/-- A sum of two reals is real. -/
theorem IsReal.add {x y : EReal} : IsReal x → IsReal y → IsReal (x + y) := by
  rintro ⟨a, rfl⟩ ⟨b, rfl⟩
  exact ⟨a + b, (EReal.coe_add a b).symm⟩

/-- A finite sum of reals is real. -/
theorem IsReal.sum {N : ℕ} (f : Fin N → EReal) (h : ∀ k, IsReal (f k)) : IsReal (∑ k : Fin N, f k) :=
  Finset.sum_induction f IsReal (fun _ _ => IsReal.add) ⟨0, rfl⟩ fun k _ => h k

/-- A value that is neither infinity is real. -/
theorem isReal_of_ne {x : EReal} (h : x ≠ ⊥) (h' : x ≠ ⊤) : IsReal x := ⟨x.toReal, (EReal.coe_toReal h' h).symm⟩

/-- Of two real numbers' sum, less the first, the second is left. -/
theorem add_sub_left {x y : EReal} : IsReal x → IsReal y → x + y - x = y := by
  rintro ⟨a, rfl⟩ ⟨b, rfl⟩
  rw [← EReal.coe_add, ← EReal.coe_sub, add_sub_cancel_left]

/-- The width is the real 1024. -/
theorem width_eq : width = ((1024 : ℝ) : EReal) := by
  simp [width, Ideal.ofBits, Ideal.ieee, -EReal.coe_mul]; norm_num

/-- The small constant is a positive real. -/
theorem small_pos : ∃ r : ℝ, 0 < r ∧ small = (r : EReal) := by
  refine ⟨8796093 * (2 ^ 43)⁻¹, by positivity, ?_⟩
  simp [small, Ideal.ofBits, Ideal.ieee, -EReal.coe_mul]

/-- A square is not negative. -/
theorem mul_self_nonneg' (x : EReal) : 0 ≤ x * x := by
  rcases le_total 0 x with h | h
  · exact mul_nonneg h h
  · exact EReal.mul_nonneg_iff.mpr (Or.inr ⟨h, h⟩)

/-- A normalised row's entries are real wherever its gain is. -/
theorem rms_real (x g : Fin 1024 → EReal) (k : Fin 1024) (hg : IsReal (g k)) : IsReal (rms x g k) := by
  unfold rms
  refine IsReal.mul ?_ hg
  have hS : 0 ≤ ∑ l : Fin 1024, x l * x l := Finset.sum_nonneg fun l _ => mul_self_nonneg' _
  have hk : x k * x k ≤ ∑ l : Fin 1024, x l * x l := Finset.single_le_sum (f := fun l => x l * x l) (fun l _ => mul_self_nonneg' _) (Finset.mem_univ k)
  obtain ⟨e, he, hs⟩ := small_pos
  rw [hs, width_eq]
  generalize (∑ l : Fin 1024, x l * x l) = S at hS hk
  induction S with
  | bot => exact absurd hS (by simp)
  | top =>
    have : Ideal.div ⊤ ((1024 : ℝ) : EReal) + (e : EReal) = ⊤ := by
      unfold Ideal.div
      rw [if_neg (by norm_num), ← EReal.coe_inv, EReal.top_mul_coe_of_pos (by norm_num)]
      rfl
    rw [this]
    show IsReal (x k * 0)
    rw [mul_zero]
    exact ⟨0, rfl⟩
  | coe s =>
    have hs0 : 0 ≤ s := by exact_mod_cast hS
    have hx : IsReal (x k) := by
      refine isReal_of_ne ?_ ?_ <;> intro h <;> rw [h] at hk <;> simp at hk
    refine hx.mul ?_
    have : Ideal.div (s : EReal) ((1024 : ℝ) : EReal) + (e : EReal) = ((s * (1024 : ℝ)⁻¹ + e : ℝ) : EReal) := by
      unfold Ideal.div
      rw [if_neg (by norm_num), ← EReal.coe_inv, ← EReal.coe_mul, ← EReal.coe_add]
    rw [this]
    have hp : 0 < s * (1024 : ℝ)⁻¹ + e := by positivity
    show IsReal (if s * (1024 : ℝ)⁻¹ + e < 0 then ⊥ else if s * (1024 : ℝ)⁻¹ + e = 0 then ⊤ else (((Real.sqrt (s * (1024 : ℝ)⁻¹ + e))⁻¹ : ℝ) : EReal))
    rw [if_neg hp.not_gt, if_neg hp.ne']
    exact ⟨_, rfl⟩

/-- A real row times a real matrix is real. -/
theorem lin_real {K N : ℕ} (x : Fin K → EReal) (w : Fin K → Fin N → EReal) (n : Fin N) (hx : ∀ k, IsReal (x k)) (hw : ∀ k, IsReal (w k n)) :
    IsReal (lin x w n) :=
  IsReal.sum _ fun k => (hx k).mul (hw k)

/-- A head scaled by the reciprocal root of its mean square. -/
def headRms (p : Fin 64 → EReal) (d : Fin 64) : EReal :=
  p d * Ideal.rsqrt (Ideal.div (∑ t : Fin 64, p t * p t) (Ideal.ofBits .f32 0x42800000#32) + small)

/-- Times one sixty-fourth is divided by 64. -/
theorem mul_64th (x : EReal) : x * Ideal.ofBits .f32 0x3C800000#32 = Ideal.div x (Ideal.ofBits .f32 0x42800000#32) := by
  have h1 : Ideal.ofBits .f32 0x3C800000#32 = (((64 : ℝ)⁻¹ : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2]
  unfold Ideal.div
  rw [if_neg (by norm_num), EReal.coe_inv]

/-- Two heads side by side, normalised: the first by its own squares, the second by all the squares less the first's. -/
theorem pair_rms (y : Fin 128 → EReal) (hy : ∀ l, IsReal (y l)) (l : Fin 128) :
    y l * Ideal.rsqrt ((if l.val < 64 then ∑ t : Fin 64, y ⟨t.val, by omega⟩ * y ⟨t.val, by omega⟩
        else (∑ t : Fin 128, y t * y t) - ∑ t : Fin 64, y ⟨t.val, by omega⟩ * y ⟨t.val, by omega⟩) * Ideal.ofBits .f32 0x3C800000#32 + small)
      = headRms (fun t => y ⟨64 * (l.val / 64) + t.val, by omega⟩) ⟨l.val % 64, by omega⟩ := by
  have hl : y l = y ⟨64 * (l.val / 64) + l.val % 64, by omega⟩ := congrArg y (Fin.ext (by simp; omega))
  unfold headRms
  rw [mul_64th, hl]
  congr 4
  by_cases h : l.val < 64
  · rw [if_pos h]
    refine Finset.sum_congr rfl fun t _ => ?_
    have e : y ⟨t.val, by omega⟩ = y ⟨64 * (l.val / 64) + t.val, by omega⟩ := congrArg y (Fin.ext (by simp; omega))
    rw [e]
  · rw [if_neg h, show (∑ t : Fin 128, y t * y t) = _ from Fin.sum_univ_add (a := 64) (b := 64) fun t => y t * y t]
    refine (add_sub_left (IsReal.sum _ fun t => (hy _).mul (hy _)) (IsReal.sum _ fun t => (hy _).mul (hy _))).trans ?_
    refine Finset.sum_congr rfl fun t _ => ?_
    have e : y (Fin.natAdd 64 t) = y ⟨64 * (l.val / 64) + t.val, by omega⟩ := congrArg y (Fin.ext (by simp; omega))
    rw [e]

/-- The column of kind `κ` (query, key, value), group `g`, head `t` and lane `d` in a projected row. -/
def lane (κ g : Fin 3) (t : Fin 4) (d : Fin 64) : Fin 3840 := ⟨1536 + 768 * κ.val + 256 * g.val + 64 * t.val + d.val, by omega⟩

/-- One attention entry of a projected row `p`: the queries normalised, scaled by their gain and by an eighth, the keys
    normalised and scaled by their gain, the values as they are. -/
def entry (p : Fin 3840 → EReal) (gq gk : Fin 64 → EReal) (κ g : Fin 3) (t : Fin 4) (d : Fin 64) : EReal :=
  match κ with
  | 0 => headRms (fun d => p (lane 0 g t d)) d * gq d * Ideal.ofBits .f32 0x3E000000#32
  | 1 => headRms (fun d => p (lane 1 g t d)) d * gk d
  | 2 => p (lane 2 g t d)

/-- The row of group `g`: the queries, the keys and the values of its four heads. -/
def attRow (p : Fin 3840 → EReal) (gq gk : Fin 64 → EReal) (g : Fin 3) (w : Fin 768) : EReal :=
  entry p gq gk ⟨w.val / 256, by omega⟩ g ⟨w.val % 256 / 64, by omega⟩ ⟨w.val % 64, by omega⟩

end Cert.Heads

end
-- ==== Proof.Ref2.lean ====
/- What the second reference's host operations compute, stage by stage, each stage read at an index: the rows after the
   first feed-forward, their projection, and the attention columns by group. -/
module

public import proofs.«01_k».proof.Proof.Gen.Reference2Ideal.Run
public import proofs.«01_k».proof.Proof.Ref
public import proofs.«01_k».proof.Proof.Heads

@[expose] public section

set_option maxRecDepth 16384

noncomputable section

namespace Cert.Ref2

open Idealize.ShloMosaic Idealize.ShloMosaic.TcCoe Cert.Reference2Ideal Cert.Reference2Ideal.Gen Cert.Rows Cert.Heads
open Cert.Ref (normR normR_apply ffnR ffnR_apply)

/-- The projection of normalised rows. -/
def projR (h : FVec Ideal S32768x1024 .f32) (w : FVec Ideal S1024x3840 .f32) : FVec Ideal S32768x3840 .f32 :=
  Host.dotGeneral dot_S32768x1024_S1024x3840_S32768x3840_1_0_0_1_n_n none h w

/-- An entry of the projection. -/
theorem projR_apply (h : FVec Ideal S32768x1024 .f32) (w : FVec Ideal S1024x3840 .f32) (R : Fin 32768) (n : Fin 3840) :
    projR h w (ix2 R n) = lin (fun k => h (ix2 R k)) (fun k n => w (ix2 k n)) n := by
  unfold lin
  pointwise [projR]

/-- The projected columns of kind `κ`, by sequence, position, group, head and lane. -/
def kindR (P : FVec Ideal S32768x3840 .f32) (κ : Nat) (h : S8x4096x3x3x4x64.Slices ![0, 0, κ, 0, 0, 0] S8x4096x1x3x4x64) : FVec Ideal S8x4096x3x4x64 .f32 :=
  shapeCast _ (extractStridedSlice S8x4096x1x3x4x64 ![0, 0, κ, 0, 0, 0] (shapeCast _ (extractStridedSlice S32768x2304 ![0, 1536] P slices_S32768x3840_S32768x2304_0_1536) shapeCasts_S32768x2304_S8x4096x3x3x4x64) h) shapeCasts_S8x4096x1x3x4x64_S8x4096x3x4x64

/-- Each head normalised by its own mean square, times a gain. -/
def headR (A : FVec Ideal S8x4096x3x4x64 .f32) (gain : FVec Ideal S64 .f32) : FVec Ideal S8x4096x3x4x64 .f32 :=
  mulf (mulf A (broadcastInDim S8x4096x3x4x64 ![0, 1, 2, 3, 4] bcast_S8x4096x3x4x1_S8x4096x3x4x64_0_1_2_3_4 (Host.rsqrt (addf (Host.divf (broadcastInDim S8x4096x3x4x1 ![0, 1, 2, 3] bcast_S8x4096x3x4_S8x4096x3x4x1_0_1_2_3 (Host.reduceAdd (mulf A A) (constant S_ .f32 0x00000000#32) reducesTo_S8x4096x3x4x64_S8x4096x3x4_d4 h_S_)) (broadcastInDim S8x4096x3x4x1 ![] bcast_S_S8x4096x3x4x1 (constant S_ .f32 0x42800000#32))) (broadcastInDim S8x4096x3x4x1 ![] bcast_S_S8x4096x3x4x1 (constant S_ .f32 0x358637BD#32)))))) (broadcastInDim S8x4096x3x4x64 ![0, 1, 2, 3, 4] bcast_S1x1x1x1x64_S8x4096x3x4x64_0_1_2_3_4 (broadcastInDim S1x1x1x1x64 ![4] bcast_S64_S1x1x1x1x64_4 gain))

/-- An entry of the normed heads. -/
theorem headR_apply (A : FVec Ideal S8x4096x3x4x64 .f32) (gain : FVec Ideal S64 .f32) (b : Fin 8) (s : Fin 4096) (g : Fin 3) (t : Fin 4) (d : Fin 64) :
    headR A gain (ix5 b s g t d) = headRms (fun d => A (ix5 b s g t d)) d * gain (ix1 d) := by
  unfold headRms small
  pointwise [headR]

/-- The queries: normalised, and an eighth of that. -/
def queryR (A : FVec Ideal S8x4096x3x4x64 .f32) (gain : FVec Ideal S64 .f32) : FVec Ideal S8x4096x3x4x64 .f32 :=
  mulf (headR A gain) (broadcastInDim S8x4096x3x4x64 ![] bcast_S_S8x4096x3x4x64 (constant S_ .f32 0x3E000000#32))

/-- An entry of the normed and scaled queries. -/
theorem queryR_apply (A : FVec Ideal S8x4096x3x4x64 .f32) (gain : FVec Ideal S64 .f32) (b : Fin 8) (s : Fin 4096) (g : Fin 3) (t : Fin 4) (d : Fin 64) :
    queryR A gain (ix5 b s g t d) = headRms (fun d => A (ix5 b s g t d)) d * gain (ix1 d) * Ideal.ofBits .f32 0x3E000000#32 := by
  rw [← headR_apply]
  unfold queryR
  generalize headR A gain = B
  pointwise

/-- The four heads of group `g`, side by side. -/
def flatR (A : FVec Ideal S8x4096x3x4x64 .f32) (g : Nat) (h : S8x4096x3x4x64.Slices ![0, 0, g, 0, 0] S8x4096x1x4x64) : FVec Ideal S8x4096x256 .f32 :=
  shapeCast _ (shapeCast _ (extractStridedSlice S8x4096x1x4x64 ![0, 0, g, 0, 0] A h) shapeCasts_S8x4096x1x4x64_S8x4096x4x64) shapeCasts_S8x4096x4x64_S8x4096x256

/-- The queries, keys and values of group `g` side by side. -/
def groupR (A B C : FVec Ideal S8x4096x256 .f32) : FVec Ideal S8x4096x768 .f32 :=
  concatenate S8x4096x768 2 [⟨S8x4096x256, A⟩, ⟨S8x4096x256, B⟩, ⟨S8x4096x256, C⟩] concatenates_S8x4096x256_S8x4096x256_S8x4096x256_S8x4096x768_d2

/-- A head lane of the queries, keys or values is a projected column. -/
theorem kindR_apply (P : FVec Ideal S32768x3840 .f32) (κ : Fin 3) (h : S8x4096x3x3x4x64.Slices ![0, 0, κ.val, 0, 0, 0] S8x4096x1x3x4x64)
    (b : Fin 8) (s : Fin 4096) (g : Fin 3) (t : Fin 4) (d : Fin 64) (R : Fin 32768) (hR : R.val = 4096 * b.val + s.val) :
    kindR P κ.val h (ix5 b s g t d) = P (ix2 R (lane κ g t d)) := by
  fin_cases κ
  all_goals
    pointwise [kindR]
    refine congrArg P (congrArg₂ ix2 (Fin.ext ?_) (Fin.ext ?_))
    · simp only; omega
    · simp only [lane]; omega

/-- An entry of one group's four heads laid flat. -/
theorem flatR_apply (A : FVec Ideal S8x4096x3x4x64 .f32) (g : Fin 3) (h : S8x4096x3x4x64.Slices ![0, 0, g.val, 0, 0] S8x4096x1x4x64)
    (b : Fin 8) (s : Fin 4096) (u : Fin 256) :
    flatR A g.val h (ix3 b s u) = A (ix5 b s g ⟨u.val / 64, by omega⟩ ⟨u.val % 64, by omega⟩) := by
  fin_cases g
  all_goals
    pointwise [flatR]

/-- An entry of a group's queries, keys and values side by side. -/
theorem groupR_apply (A B C : FVec Ideal S8x4096x256 .f32) (b : Fin 8) (s : Fin 4096) (w : Fin 768) :
    groupR A B C (ix3 b s w) = if w.val < 256 then A (ix3 b s ⟨w.val % 256, by omega⟩)
      else if w.val < 512 then B (ix3 b s ⟨w.val % 256, by omega⟩) else C (ix3 b s ⟨w.val % 256, by omega⟩) := by
  pointwise [groupR]
  have hw := w.isLt
  by_cases h1 : w.val < 256
  · rw [dif_pos h1, if_pos h1]
    exact congrArg A (congrArg (ix3 b s) (Fin.ext (by simp only; omega)))
  · rw [dif_neg h1, if_neg h1]
    by_cases h2 : w.val < 512
    · rw [dif_pos (by omega), if_pos h2]
      exact congrArg B (congrArg (ix3 b s) (Fin.ext (by simp only; omega)))
    · rw [dif_neg (by omega), if_neg h2]
      exact congrArg C (congrArg (ix3 b s) (Fin.ext (by simp only; omega)))

/-- The attention rows of group `g`. -/
def attR (P : FVec Ideal S32768x3840 .f32) (gq gk : FVec Ideal S64 .f32) (g : Nat) (h : S8x4096x3x4x64.Slices ![0, 0, g, 0, 0] S8x4096x1x4x64) :
    FVec Ideal S8x4096x768 .f32 :=
  groupR (flatR (queryR (kindR P 0 slices_S8x4096x3x3x4x64_S8x4096x1x3x4x64_0_0_0_0_0_0) gq) g h)
    (flatR (headR (kindR P 1 slices_S8x4096x3x3x4x64_S8x4096x1x3x4x64_0_0_1_0_0_0) gk) g h)
    (flatR (kindR P 2 slices_S8x4096x3x3x4x64_S8x4096x1x3x4x64_0_0_2_0_0_0) g h)

/-- An entry of a group, from the projected row. -/
theorem attR_apply (P : FVec Ideal S32768x3840 .f32) (gq gk : FVec Ideal S64 .f32) (g : Fin 3) (h : S8x4096x3x4x64.Slices ![0, 0, g.val, 0, 0] S8x4096x1x4x64)
    (b : Fin 8) (s : Fin 4096) (w : Fin 768) (R : Fin 32768) (hR : R.val = 4096 * b.val + s.val) :
    attR P gq gk g.val h (ix3 b s w) = attRow (fun n => P (ix2 R n)) (fun d => gq (ix1 d)) (fun d => gk (ix1 d)) g w := by
  have hk (κ : Fin 3) (h : S8x4096x3x3x4x64.Slices ![0, 0, κ.val, 0, 0, 0] S8x4096x1x3x4x64) (t : Fin 4) (d : Fin 64) :
      kindR P κ.val h (ix5 b s g t d) = P (ix2 R (lane κ g t d)) := kindR_apply P κ h b s g t d R hR
  have hq : ∀ (t : Fin 4) (d : Fin 64), kindR P 0 slices_S8x4096x3x3x4x64_S8x4096x1x3x4x64_0_0_0_0_0_0 (ix5 b s g t d) = P (ix2 R (lane 0 g t d)) := hk 0 _
  have hkey : ∀ (t : Fin 4) (d : Fin 64), kindR P 1 slices_S8x4096x3x3x4x64_S8x4096x1x3x4x64_0_0_1_0_0_0 (ix5 b s g t d) = P (ix2 R (lane 1 g t d)) := hk 1 _
  have e : (⟨w.val % 256 % 64, by omega⟩ : Fin 64) = ⟨w.val % 64, by omega⟩ := Fin.ext (by simp only; omega)
  have hw := w.isLt
  unfold attR attRow
  rw [groupR_apply]
  by_cases h1 : w.val < 256
  · rw [if_pos h1, flatR_apply _ g, queryR_apply, e, show (⟨w.val / 256, by omega⟩ : Fin 3) = 0 from Fin.ext (by simp only [Fin.val_zero]; omega)]
    simp only [hq]
    rfl
  · rw [if_neg h1]
    by_cases h2 : w.val < 512
    · rw [if_pos h2, flatR_apply _ g, headR_apply, e, show (⟨w.val / 256, by omega⟩ : Fin 3) = 1 from Fin.ext (by simp only [Fin.val_one]; omega)]
      simp only [hkey]
      rfl
    · rw [if_neg h2, flatR_apply _ g, e, show (⟨w.val / 256, by omega⟩ : Fin 3) = 2 from Fin.ext (by simp only [Fin.val_two]; omega)]
      exact hk 2 slices_S8x4096x3x3x4x64_S8x4096x1x3x4x64_0_0_2_0_0_0 _ _

/-- The rows in their order. -/
theorem inOrder_apply (A : FVec Ideal S8x4096x768 .f32) (R : Fin 32768) (w : Fin 768) :
    (shapeCast S32768x768 (truncf .bf16 (transpose S8x1x4096x768 [0, 2, 1, 3] (shapeCast S8x4096x1x768 A shapeCasts_S8x4096x768_S8x4096x1x768) transposes_S8x4096x1x768_S8x1x4096x768_0_2_1_3) bitsLt_bf16_f32) shapeCasts_S8x1x4096x768_S32768x768 : FVec Ideal S32768x768 .bf16) (ix2 R w)
      = A (ix3 ⟨R.val / 4096, by omega⟩ ⟨R.val % 4096, by omega⟩ w) := by
  pointwise

/-- The rows by residue modulo 4. -/
theorem by4_apply (A : FVec Ideal S8x4096x768 .f32) (b : Fin 8) (r : Fin 4) (i : Fin 1024) (w : Fin 768) :
    (truncf .bf16 (transpose S8x4x1024x768 [0, 2, 1, 3] (shapeCast S8x1024x4x768 A shapeCasts_S8x4096x768_S8x1024x4x768) transposes_S8x1024x4x768_S8x4x1024x768_0_2_1_3) bitsLt_bf16_f32 : FVec Ideal S8x4x1024x768 .bf16) (ix4 b r i w)
      = A (ix3 b ⟨i.val * 4 + r.val, by omega⟩ w) := by
  pointwise

/-- The rows by residue modulo 16. -/
theorem by16_apply (A : FVec Ideal S8x4096x768 .f32) (b : Fin 8) (r : Fin 16) (i : Fin 256) (w : Fin 768) :
    (truncf .bf16 (transpose S8x16x256x768 [0, 2, 1, 3] (shapeCast S8x256x16x768 A shapeCasts_S8x4096x768_S8x256x16x768) transposes_S8x256x16x768_S8x16x256x768_0_2_1_3) bitsLt_bf16_f32 : FVec Ideal S8x16x256x768 .bf16) (ix4 b r i w)
      = A (ix3 b ⟨i.val * 16 + r.val, by omega⟩ w) := by
  pointwise

variable (m : (l : Loc nD τ sig) → Buf (Elt Ideal) l) (c : Dev nD)

/-- The rows after the first feed-forward, of the arguments. -/
def rowsR : FVec Ideal S32768x1024 .f32 :=
  ffnR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- Their projection. -/
def projected : FVec Ideal S32768x3840 .f32 := projR (normR (rowsR m c) (m ((c.tc : Thread nD τ).loc main_arg5))) (m ((c.tc : Thread nD τ).loc main_arg6))

/-- The second result: the first 1536 columns. -/
theorem hy_eq : Value.res_main_v36 m c
    = truncf .bf16 (extractStridedSlice S32768x1536 ![0, 0] (projected m c) slices_S32768x3840_S32768x1536_0_0) bitsLt_bf16_f32 := by
  unfold Value.res_main_v36 projected projR rowsR ffnR Cert.Ref.hiddenR normR
  rfl

/-- The third result: the first group's rows in order. -/
theorem a0_eq : Value.res_main_v112 m c
    = shapeCast _ (truncf .bf16 (transpose S8x1x4096x768 [0, 2, 1, 3] (shapeCast _ (attR (projected m c) (m ((c.tc : Thread nD τ).loc main_arg7)) (m ((c.tc : Thread nD τ).loc main_arg8)) 0 slices_S8x4096x3x4x64_S8x4096x1x4x64_0_0_0_0_0) shapeCasts_S8x4096x768_S8x4096x1x768) transposes_S8x4096x1x768_S8x1x4096x768_0_2_1_3) bitsLt_bf16_f32) shapeCasts_S8x1x4096x768_S32768x768 := by
  unfold Value.res_main_v112 attR groupR flatR queryR headR kindR projected projR rowsR ffnR Cert.Ref.hiddenR normR
  rfl

/-- The fourth result: the second group's rows by residue of 4. -/
theorem a1_eq : Value.res_main_v98 m c
    = truncf .bf16 (transpose S8x4x1024x768 [0, 2, 1, 3] (shapeCast _ (attR (projected m c) (m ((c.tc : Thread nD τ).loc main_arg7)) (m ((c.tc : Thread nD τ).loc main_arg8)) 1 slices_S8x4096x3x4x64_S8x4096x1x4x64_0_0_1_0_0) shapeCasts_S8x4096x768_S8x1024x4x768) transposes_S8x1024x4x768_S8x4x1024x768_0_2_1_3) bitsLt_bf16_f32 := by
  unfold Value.res_main_v98 attR groupR flatR queryR headR kindR projected projR rowsR ffnR Cert.Ref.hiddenR normR
  rfl

/-- The fifth result: the third group's rows by residue of 16. -/
theorem a2_eq : Value.res_main_v111 m c
    = truncf .bf16 (transpose S8x16x256x768 [0, 2, 1, 3] (shapeCast _ (attR (projected m c) (m ((c.tc : Thread nD τ).loc main_arg7)) (m ((c.tc : Thread nD τ).loc main_arg8)) 2 slices_S8x4096x3x4x64_S8x4096x1x4x64_0_0_2_0_0) shapeCasts_S8x4096x768_S8x256x16x768) transposes_S8x256x16x768_S8x16x256x768_0_2_1_3) bitsLt_bf16_f32 := by
  unfold Value.res_main_v111 attR groupR flatR queryR headR kindR projected projR rowsR ffnR Cert.Ref.hiddenR normR
  rfl

/-- Row `R` after the first feed-forward, of the arguments. -/
def rowAt (R : Fin 32768) : Fin 1024 → EReal :=
  ffnRow (fun k => m ((c.tc : Thread nD τ).loc main_arg0) (ix2 R k)) (fun k => m ((c.tc : Thread nD τ).loc main_arg1) (ix1 k))
    (fun k j => m ((c.tc : Thread nD τ).loc main_arg2) (ix2 k j)) (fun k j => m ((c.tc : Thread nD τ).loc main_arg3) (ix2 k j))
    (fun j n => m ((c.tc : Thread nD τ).loc main_arg4) (ix2 j n))

/-- Row `R` projected, of the arguments. -/
def projAt (R : Fin 32768) : Fin 3840 → EReal :=
  lin (rms (rowAt m c R) fun k => m ((c.tc : Thread nD τ).loc main_arg5) (ix1 k)) (fun k n => m ((c.tc : Thread nD τ).loc main_arg6) (ix2 k n))

/-- An entry of the rows after the feed-forward. -/
theorem rowsR_apply (R : Fin 32768) (n : Fin 1024) : rowsR m c (ix2 R n) = rowAt m c R n := ffnR_apply _ _ _ _ _ R n

/-- An entry of their projection. -/
theorem projected_apply (R : Fin 32768) (n : Fin 3840) : projected m c (ix2 R n) = projAt m c R n := by
  unfold projected
  rw [projR_apply]
  simp only [normR_apply, rowsR_apply]
  rfl

/-- Group `g`'s attention row `R`, of the arguments. -/
def attAt (g : Fin 3) (R : Fin 32768) : Fin 768 → EReal :=
  attRow (projAt m c R) (fun d => m ((c.tc : Thread nD τ).loc main_arg7) (ix1 d)) (fun d => m ((c.tc : Thread nD τ).loc main_arg8) (ix1 d)) g

/-- An entry of a group, before its rows are reordered. -/
theorem group_apply (g : Fin 3) (h : S8x4096x3x4x64.Slices ![0, 0, g.val, 0, 0] S8x4096x1x4x64)
    (b : Fin 8) (s : Fin 4096) (w : Fin 768) (R : Fin 32768) (hR : R.val = 4096 * b.val + s.val) :
    attR (projected m c) (m ((c.tc : Thread nD τ).loc main_arg7)) (m ((c.tc : Thread nD τ).loc main_arg8)) g.val h (ix3 b s w) = attAt m c g R w := by
  rw [attR_apply (R := R) (hR := hR)]
  simp only [projected_apply]
  rfl

/-- An entry of the second result. -/
theorem hy_apply (R : Fin 32768) (n : Fin 1536) : Value.res_main_v36 m c (ix2 R n) = projAt m c R ⟨n.val, by omega⟩ := by
  rw [hy_eq, ← projected_apply]
  generalize projected m c = P
  pointwise

/-- An entry of the third result. -/
theorem a0_apply (R : Fin 32768) (w : Fin 768) : Value.res_main_v112 m c (ix2 R w) = attAt m c 0 R w :=
  (congrFun (a0_eq m c) (ix2 R w)).trans ((inOrder_apply _ R w).trans
    (group_apply m c 0 slices_S8x4096x3x4x64_S8x4096x1x4x64_0_0_0_0_0 ⟨R.val / 4096, by omega⟩ ⟨R.val % 4096, by omega⟩ w R (by simp only; omega)))

/-- An entry of the fourth result. -/
theorem a1_apply (b : Fin 8) (r : Fin 4) (i : Fin 1024) (w : Fin 768) (R : Fin 32768) (hR : R.val = 4096 * b.val + (i.val * 4 + r.val)) :
    Value.res_main_v98 m c (ix4 b r i w) = attAt m c 1 R w :=
  (congrFun (a1_eq m c) (ix4 b r i w)).trans ((by4_apply _ b r i w).trans
    (group_apply m c 1 slices_S8x4096x3x4x64_S8x4096x1x4x64_0_0_1_0_0 b ⟨i.val * 4 + r.val, by omega⟩ w R hR))

/-- An entry of the fifth result. -/
theorem a2_apply (b : Fin 8) (r : Fin 16) (i : Fin 256) (w : Fin 768) (R : Fin 32768) (hR : R.val = 4096 * b.val + (i.val * 16 + r.val)) :
    Value.res_main_v111 m c (ix4 b r i w) = attAt m c 2 R w :=
  (congrFun (a2_eq m c) (ix4 b r i w)).trans ((by16_apply _ b r i w).trans
    (group_apply m c 2 slices_S8x4096x3x4x64_S8x4096x1x4x64_0_0_2_0_0 b ⟨i.val * 16 + r.val, by omega⟩ w R hR))

end Cert.Ref2

end
-- ==== Proof.Block2.lean ====
/- What the projection kernel's body computes of 256 rows: its printed operations read at an index over the extended
   reals, each as the corresponding function of one row (Rows.lean, Heads.lean). -/
module

public import proofs.«01_k».proof.Proof.Gen.Kernel2Ideal.Skeleton
public import proofs.«01_k».proof.Proof.Rows

@[expose] public section

set_option maxRecDepth 16384

noncomputable section

namespace Cert.Block2

open Idealize.ShloMosaic Idealize.ShloMosaic.TcCoe Cert.Kernel2Ideal Cert.Kernel2Ideal.Gen Cert.Rows
open scoped BigOperators

variable (x : FVec Ideal S256x1024 .f32) (g : FVec Ideal S1x1024 .f32) (u0 v0 u1 v1 : FVec Ideal S1024x1280 .bf16)
  (tail : FVec Ideal S1024x256 .bf16) (d0 : FVec Ideal S1280x1024 .bf16) (d1 : FVec Ideal S1408x1024 .bf16)

/-- 256 rows after the first feed-forward. -/
def resB : FVec Ideal S256x1024 .f32 :=
  k0_pay12 x (k0_pay7 x g) k0_pay8 (k0_pay9 x g u0) (k0_pay10 x g v0) (k0_pay11 x g u0) d0 u1 v1 tail d1

/-- The normalised row the feed-forward starts from. -/
theorem pay7_apply (r : Fin 256) (k : Fin 1024) :
    k0_pay7 (F := Ideal) x g (ix2 r k) = rms (fun k => x (ix2 r k)) (fun k => g (ix2 0 k)) k := by
  pointwise [k0_pay7, rms]

/-- Row `r` after the first feed-forward, from the pieces its weights are read in. -/
theorem resB_pieces (r : Fin 256) (n : Fin 1024) :
    resB x g u0 v0 u1 v1 tail d0 d1 (ix2 r n)
      = x (ix2 r n) + half * ((∑ j : Fin 1280, unit (∑ k : Fin 1024, k0_pay7 (F := Ideal) x g (ix2 r k) * u0 (ix2 k j))
            (∑ k : Fin 1024, k0_pay7 (F := Ideal) x g (ix2 r k) * v0 (ix2 k j)) * d0 (ix2 j n))
        + (∑ j : Fin 1280, unit (∑ k : Fin 1024, k0_pay7 (F := Ideal) x g (ix2 r k) * u1 (ix2 k j))
              (∑ k : Fin 1024, k0_pay7 (F := Ideal) x g (ix2 r k) * v1 (ix2 k j)) * d1 (ix2 ⟨j.val, by omega⟩ n)
          + ∑ j : Fin 128, unit (∑ k : Fin 1024, k0_pay7 (F := Ideal) x g (ix2 r k) * tail (ix2 k ⟨j.val, by omega⟩))
              (∑ k : Fin 1024, k0_pay7 (F := Ideal) x g (ix2 r k) * tail (ix2 k ⟨128 + j.val, by omega⟩)) * d1 (ix2 ⟨1280 + j.val, by omega⟩ n))) := by
  unfold resB unit k0_pay11 k0_pay9 k0_pay10
  generalize k0_pay7 (F := Ideal) x g = h
  pointwise [k0_pay12, k0_pay8]

/-- The two halves of a 256-column product. -/
def lo (P : FVec Ideal S256x256 .f32) : FVec Ideal S256x128 .f32 :=
  extractStridedSlice S256x128 ![0, 0] P slices_S256x256_o0_0_S256x128

/-- The second half. -/
def hi (P : FVec Ideal S256x256 .f32) : FVec Ideal S256x128 .f32 :=
  extractStridedSlice S256x128 ![0, 128] P slices_S256x256_o0_128_S256x128

/-- The mask of the first head's lanes, of every row. -/
def mask : IVec S256x128 1 :=
  broadcastTo S256x128 (shapeCast S1x128 k0_pay4 shapeCasts_S1x128_S1x128) broadcasts_S1x128_S256x128

/-- The squares summed over the lanes of the first head of each row. -/
def lowSq (y : FVec Ideal S256x128 .f32) : FVec Ideal S256x1 .f32 :=
  shapeCast S256x1 (multiReduction .add [1] S256 (select mask (mulf y y)
    (broadcast S256x128 (Scalar.ofBits .f32 0x00000000#32))) 0x00000000#32 reduces_S256x128_S256 (.inl rfl) rfl) shapeCasts_S256_S256x1

/-- The squares summed over all lanes of each row. -/
def allSq (y : FVec Ideal S256x128 .f32) : FVec Ideal S256x1 .f32 :=
  shapeCast S256x1 (multiReduction .add [1] S256 (mulf y y) 0x00000000#32 reduces_S256x128_S256 (.inl rfl) rfl) shapeCasts_S256_S256x1

/-- Two heads side by side in 128 lanes, each normalised by its own mean square, times a gain. -/
def headB (gain : FVec Ideal S1x128 .f32) (y : FVec Ideal S256x128 .f32) : FVec Ideal S256x128 .f32 :=
  mulf (mulf y (rsqrt (addf (mulf (select mask
      (broadcastTo S256x128 (shapeCast S256x1 (lowSq y) shapeCasts_S256x1_S256x1) broadcasts_S256x1_S256x128)
      (broadcastTo S256x128 (shapeCast S256x1 (subf (allSq y) (lowSq y)) shapeCasts_S256x1_S256x1) broadcasts_S256x1_S256x128))
    (broadcast S256x128 (Scalar.ofBits .f32 0x3C800000#32))) (broadcast S256x128 (Scalar.ofBits .f32 0x358637BD#32)))))
    (broadcastTo S256x128 gain broadcasts_S1x128_S256x128)

/-- The mask of the first head's lanes. -/
theorem mask_apply (r : Fin 256) (l : Fin 128) :
    mask (ix2 r l) = if l.val < 64 then 1#1 else 0#1 := by
  have h : ∀ l : Fin 128, IntOp.cmpi CmpIPredicate.slt (BitVec.ofNat 32 l.val) 64#32 = if l.val < 64 then 1#1 else 0#1 := by
    decide +kernel
  pointwise [mask, k0_pay4]
  exact h l

/-- A selection by the mask of the first head's lanes. -/
theorem select_mask (M : S256x128.Idx → BitVec 1) (hM : ∀ (r : Fin 256) (l : Fin 128), M (ix2 r l) = if l.val < 64 then 1#1 else 0#1)
    (r : Fin 256) (l : Fin 128) (a b : EReal) : Scalar.select (M (ix2 r l)) a b = if l.val < 64 then a else b := by
  rw [hM]
  by_cases h : l.val < 64 <;> simp [h, Scalar.select]

/-- All lanes' squares of a row. -/
theorem allSq_apply (y : FVec Ideal S256x128 .f32) (r : Fin 256) :
    allSq y (ix2 r 0) = ∑ l : Fin 128, y (ix2 r l) * y (ix2 r l) := by
  pointwise [allSq]

/-- The first head's squares of a row. -/
theorem lowSq_apply (y : FVec Ideal S256x128 .f32) (r : Fin 256) :
    lowSq y (ix2 r 0) = ∑ l : Fin 64, y (ix2 r ⟨l.val, by omega⟩) * y (ix2 r ⟨l.val, by omega⟩) := by
  unfold lowSq
  generalize hm : mask = M
  have hM : ∀ (r : Fin 256) (l : Fin 128), M (ix2 r l) = if l.val < 64 then 1#1 else 0#1 := fun r l => hm ▸ mask_apply r l
  pointwise
  refine (Finset.sum_congr rfl fun l _ => select_mask M hM r l _ _).trans ((Fin.sum_univ_add (a := 64) (b := 64) _).trans ?_)
  have z : ∀ l : Fin 64, ¬ (Fin.natAdd 64 l).val < 64 := fun l => by simp [Fin.natAdd]
  have o : ∀ l : Fin 64, (Fin.castAdd 64 l).val < 64 := fun l => l.isLt
  simp only [z, o, if_true, if_false, Finset.sum_const_zero, add_zero]
  rfl

/-- The two heads' normalisation, at an index. -/
theorem headB_apply (gain : FVec Ideal S1x128 .f32) (y : FVec Ideal S256x128 .f32) (r : Fin 256) (l : Fin 128) :
    headB gain y (ix2 r l) = y (ix2 r l) * Ideal.rsqrt ((if l.val < 64 then lowSq y (ix2 r 0) else allSq y (ix2 r 0) - lowSq y (ix2 r 0)) *
      Ideal.ofBits .f32 0x3C800000#32 + small) * gain (ix2 0 l) := by
  unfold headB
  generalize hm : mask = M
  have hM : ∀ (r : Fin 256) (l : Fin 128), M (ix2 r l) = if l.val < 64 then 1#1 else 0#1 := fun r l => hm ▸ mask_apply r l
  generalize lowSq y = a
  generalize allSq y = b
  pointwise
  rw [select_mask M hM]

/-- A 256-column product's halves, at an index. -/
theorem lo_apply (H : FVec Ideal S256x1024 .bf16) (W : FVec Ideal S1024x256 .bf16) (r : Fin 256) (l : Fin 128) :
    lo (k0_pay36 H W) (ix2 r l) = ∑ k : Fin 1024, H (ix2 r k) * W (ix2 k ⟨l.val, by omega⟩) := by
  pointwise [lo, k0_pay36]

/-- The second half, at an index. -/
theorem hi_apply (H : FVec Ideal S256x1024 .bf16) (W : FVec Ideal S1024x256 .bf16) (r : Fin 256) (l : Fin 128) :
    hi (k0_pay36 H W) (ix2 r l) = ∑ k : Fin 1024, H (ix2 r k) * W (ix2 k ⟨128 + l.val, by omega⟩) := by
  pointwise [hi, k0_pay36]

/-- 256 normalised rows, of the rows after the feed-forward. -/
def normB (y : FVec Ideal S256x1024 .f32) (gm : FVec Ideal S1x1024 .f32) : FVec Ideal S256x1024 .bf16 :=
  k0_pay15 y (k0_pay13 gm) (multiReduction .add [1] S256 (mulf y y) 0x00000000#32 reduces_S256x1024_S256 (.inl rfl) rfl)

/-- A normalised row. -/
theorem normB_apply (y : FVec Ideal S256x1024 .f32) (gm : FVec Ideal S1x1024 .f32) (r : Fin 256) (k : Fin 1024) :
    normB y gm (ix2 r k) = rms (fun k => y (ix2 r k)) (fun k => gm (ix2 0 k)) k := by
  pointwise [normB, k0_pay15, k0_pay13, rms]

/-- A 768-column product of the normalised rows. -/
def wide (y : FVec Ideal S256x1024 .f32) (gm : FVec Ideal S1x1024 .f32) (w : FVec Ideal S1024x768 .bf16) : FVec Ideal S256x768 .bf16 :=
  k0_pay16 y (k0_pay13 gm) (multiReduction .add [1] S256 (mulf y y) 0x00000000#32 reduces_S256x1024_S256 (.inl rfl) rfl) w

/-- A 768-column product, at an index. -/
theorem wide_apply (y : FVec Ideal S256x1024 .f32) (gm : FVec Ideal S1x1024 .f32) (w : FVec Ideal S1024x768 .bf16) (r : Fin 256) (n : Fin 768) :
    wide y gm w (ix2 r n) = ∑ k : Fin 1024, normB y gm (ix2 r k) * w (ix2 k n) := by
  unfold wide k0_pay16
  change truncf .bf16 (matmul _ none (normB y gm) _ _) _ (ix2 r n) = _
  generalize normB y gm = h
  pointwise

/-- Row `r` after the first feed-forward, when the weights' pieces are the three cuts of the whole matrices `U`, `V` and
    `D`, the last 128 columns of `U` and `V` side by side in `tail`. -/
theorem resB_apply (U V : Fin 1024 → Fin 2688 → EReal) (D : Fin 2688 → Fin 1024 → EReal)
    (hu0 : ∀ k j, u0 (ix2 k j) = U k ⟨j.val, by omega⟩) (hv0 : ∀ k j, v0 (ix2 k j) = V k ⟨j.val, by omega⟩)
    (hu1 : ∀ k j, u1 (ix2 k j) = U k ⟨1280 + j.val, by omega⟩) (hv1 : ∀ k j, v1 (ix2 k j) = V k ⟨1280 + j.val, by omega⟩)
    (htu : ∀ (k : Fin 1024) (j : Fin 128), tail (ix2 k ⟨j.val, by omega⟩) = U k ⟨2560 + j.val, by omega⟩)
    (htv : ∀ (k : Fin 1024) (j : Fin 128), tail (ix2 k ⟨128 + j.val, by omega⟩) = V k ⟨2560 + j.val, by omega⟩)
    (hd0 : ∀ j n, d0 (ix2 j n) = D ⟨j.val, by omega⟩ n) (hd1 : ∀ j n, d1 (ix2 j n) = D ⟨1280 + j.val, by omega⟩ n)
    (r : Fin 256) (n : Fin 1024) :
    resB x g u0 v0 u1 v1 tail d0 d1 (ix2 r n) = ffnRow (fun k => x (ix2 r k)) (fun k => g (ix2 0 k)) U V D n := by
  have hd2 : ∀ (j : Fin 128) (n : Fin 1024), d1 (ix2 ⟨1280 + j.val, by omega⟩ n) = D ⟨2560 + j.val, by omega⟩ n :=
    fun j n => (hd1 _ n).trans (congrArg (D · n) (Fin.ext (by dsimp only; omega)))
  have hd3 : ∀ (j : Fin 1280) (n : Fin 1024), d1 (ix2 ⟨j.val, by omega⟩ n) = D ⟨1280 + j.val, by omega⟩ n := fun j n => hd1 _ n
  rw [resB_pieces]
  unfold ffnRow lin
  simp only [pay7_apply, hu0, hv0, hu1, hv1, htu, htv, hd0, hd2, hd3]
  rw [sum_cut]

end Cert.Block2

end
-- ==== Proof.Pieces2.lean ====
/- What the projection kernel's body leaves at one grid point, as functions of the point's input blocks: five output
   blocks, each a list of stores, and at the first point the scratch holding the last 128 columns of the two
   feed-forward matrices. The two dilated groups go through a second scratch, stored one 128-lane slab at a time and
   read back at a stride. -/
module

public import proofs.«01_k».proof.Proof.Gen.Kernel2Ideal.Frame
public import proofs.«01_k».proof.Proof.Block2
public import Idealize.ShloMosaic.Lib.Pipeline.Value
public import Idealize.ShloMosaic.Lib.Pipeline.ValueKit.Tiles

@[expose] public section

set_option maxRecDepth 16384

noncomputable section

namespace Cert.Pieces2

open Idealize.ShloMosaic Idealize.ShloMosaic.TcCoe Cert.Kernel2Ideal Cert.Kernel2Ideal.Gen Cert.Block2 Cert.Rows

/-- Two zeros. -/
theorem hz : (![0, 0] : Fin 2 → Nat) = fun _ => 0 := funext fun a => by fin_cases a <;> rfl

/-- A rank-2 rectangle's bounds, from its two axes'. -/
theorem inb2 {A B a b : Nat} (o p : Nat) (h : o + a ≤ A) (h' : p + b ≤ B) :
    ∀ d, (![o, p] : Fin 2 → Nat) d + (⟨2, ![a, b]⟩ : Shape).size d ≤ (⟨2, ![A, B]⟩ : Shape).size d := fun d => match d with
  | ⟨0, _⟩ => h
  | ⟨1, _⟩ => h'

/-- A rank-4 rectangle's bounds, from its four axes'. -/
theorem inb4 {A B C D a b c d : Nat} (o p q r : Nat) (h0 : o + a ≤ A) (h1 : p + b ≤ B) (h2 : q + c ≤ C) (h3 : r + d ≤ D) :
    ∀ x, (![o, p, q, r] : Fin 4 → Nat) x + (⟨4, ![a, b, c, d]⟩ : Shape).size x ≤ (⟨4, ![A, B, C, D]⟩ : Shape).size x := fun x => match x with
  | ⟨0, _⟩ => h0
  | ⟨1, _⟩ => h1
  | ⟨2, _⟩ => h2
  | ⟨3, _⟩ => h3

section part
variable (H : FVec Ideal S256x1024 .bf16) (w : Vec Ideal S1024x3840 .bf16) (q k : Vec Ideal S1x128 .f32)

/-- 256 columns of the input projection's matrix. -/
def cols (c : Nat) (h : c + 256 ≤ 3840) : FVec Ideal S1024x256 .bf16 :=
  View.ld w (Rect.unit (s := S1024x3840) ![0, c] S1024x256.size (inb2 0 c (by omega) h))

/-- The six 128-lane slabs of group `g`: queries (two heads, then two), keys and values. -/
def slab (g : Nat) (hg : g < 3) : Nat → FVec Ideal S256x128 .f32
  | 0 => headB (k0_pay5 q) (lo (k0_pay36 H (cols w (1536 + 256 * g) (by omega))))
  | 1 => headB (k0_pay5 q) (hi (k0_pay36 H (cols w (1536 + 256 * g) (by omega))))
  | 2 => headB (k0_pay6 k) (lo (k0_pay36 H (cols w (2304 + 256 * g) (by omega))))
  | 3 => headB (k0_pay6 k) (hi (k0_pay36 H (cols w (2304 + 256 * g) (by omega))))
  | 4 => lo (k0_pay36 H (cols w (3072 + 256 * g) (by omega)))
  | _ => hi (k0_pay36 H (cols w (3072 + 256 * g) (by omega)))

/-- The six stores of group `g`'s slabs into buffer `b` of the scratch, over the stores `rest` made before. -/
def six (b : Nat) (hb : b < 4) (g : Nat) (hg : g < 3) (rest : List (View.Piece (Elt Ideal) S4x6x256x128 .f32)) :
    List (View.Piece (Elt Ideal) S4x6x256x128 .f32) :=
  let one (s : Nat) (hs : s < 6) : View.Piece (Elt Ideal) S4x6x256x128 .f32 :=
    ⟨Rect.unit (s := S4x6x256x128) ![b, s, 0, 0] S1x1x256x128.size (inb4 b s 0 0 (by omega) (by omega) (by omega) (by omega)),
      shapeCast S1x1x256x128 (slab H w q k g hg s) shapeCasts_S256x128_S1x1x256x128⟩
  one 5 (by omega) :: one 4 (by omega) :: one 3 (by omega) :: one 2 (by omega) :: one 1 (by omega) :: one 0 (by omega) :: rest

end part

/-- The rows `r`, `r + 4`, … of slab `s` of buffer `b`. -/
def by4 (b s r : Nat) (hb : b < 4) (hs : s < 6) (hr : r < 4) : LoadRect S4x6x256x128 where
  off := ![b, s, r, 0]
  size := S1x1x64x128.size
  stride := ![1, 1, 4, 1]
  inb a := match a with
    | ⟨0, _⟩ => Or.inr (show b + 1 * (1 - 1) < 4 by omega)
    | ⟨1, _⟩ => Or.inr (show s + 1 * (1 - 1) < 6 by omega)
    | ⟨2, _⟩ => Or.inr (show r + 4 * (64 - 1) < 256 by omega)
    | ⟨3, _⟩ => Or.inr (show 0 + 1 * (128 - 1) < 128 by omega)

/-- The rows `r`, `r + 16`, … of slab `s` of buffer `b`. -/
def by16 (b s r : Nat) (hb : b < 4) (hs : s < 6) (hr : r < 16) : LoadRect S4x6x256x128 where
  off := ![b, s, r, 0]
  size := S1x1x16x128.size
  stride := ![1, 1, 16, 1]
  inb a := match a with
    | ⟨0, _⟩ => Or.inr (show b + 1 * (1 - 1) < 4 by omega)
    | ⟨1, _⟩ => Or.inr (show s + 1 * (1 - 1) < 6 by omega)
    | ⟨2, _⟩ => Or.inr (show r + 16 * (16 - 1) < 256 by omega)
    | ⟨3, _⟩ => Or.inr (show 0 + 1 * (128 - 1) < 128 by omega)

/-- What is stored of the rows `r`, `r + 4`, …: the six slabs side by side. -/
def piece4 (v : View sig .tc .vmem S4x6x256x128 .f32) (L : List (View.Piece (Elt Ideal) S4x6x256x128 .f32)) (b r : Nat) (hb : b < 4) (hr : r < 4) :
    FVec Ideal S1x1x64x768 .bf16 :=
  let rd (s : Nat) (hs : s < 6) : Vec Ideal S1x1x64x128 .f32 := v.readCov (Val := Elt Ideal) L (by4 b s r hb hs hr)
  k0_pay53 (k0_pay50 (rd 0 (by omega))) (k0_pay51 (rd 1 (by omega))) (k0_pay52 (rd 2 (by omega))) (rd 3 (by omega)) (rd 4 (by omega)) (rd 5 (by omega))

/-- What is stored of the rows `r`, `r + 16`, …: the six slabs side by side. -/
def piece16 (v : View sig .tc .vmem S4x6x256x128 .f32) (L : List (View.Piece (Elt Ideal) S4x6x256x128 .f32)) (b r : Nat) (hb : b < 4) (hr : r < 16) :
    FVec Ideal S1x1x16x768 .bf16 :=
  let rd (s : Nat) (hs : s < 6) : Vec Ideal S1x1x16x128 .f32 := v.readCov (Val := Elt Ideal) L (by16 b s r hb hs hr)
  k0_pay80 (rd 0 (by omega)) (rd 1 (by omega)) (rd 2 (by omega)) (rd 3 (by omega)) (rd 4 (by omega)) (rd 5 (by omega))

variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S1024x2688 .bf16) (harg3 : arg3.IsWhole) (arg4 : Memref sig .tc .vmem S1024x2688 .bf16) (harg4 : arg4.IsWhole)
  (arg5 : Memref sig .tc .vmem S2688x1024 .bf16) (harg5 : arg5.IsWhole) (arg6 : Memref sig .tc .vmem S1x1024 .f32) (harg6 : arg6.IsWhole)
  (arg7 : Memref sig .tc .vmem S1024x3840 .bf16) (harg7 : arg7.IsWhole) (arg8 : Memref sig .tc .vmem S1x128 .f32) (harg8 : arg8.IsWhole)
  (arg9 : Memref sig .tc .vmem S1x128 .f32) (harg9 : arg9.IsWhole) (arg10 : Memref sig .tc .vmem S512x1024 .f32) (harg10 : arg10.IsWhole)
  (arg11 : Memref sig .tc .vmem S512x1536 .bf16) (harg11 : arg11.IsWhole) (arg12 : Memref sig .tc .vmem S512x768 .bf16) (harg12 : arg12.IsWhole)
  (arg13 : Memref sig .tc .vmem S1x4x128x768 .bf16) (harg13 : arg13.IsWhole) (arg14 : Memref sig .tc .vmem S1x16x32x768 .bf16) (harg14 : arg14.IsWhole)
  (arg15 : Memref sig .tc .vmem S4x6x256x128 .f32) (harg15 : arg15.IsWhole) (arg16 : Memref sig .tc .vmem S1024x256 .bf16) (harg16 : arg16.IsWhole)
  (x0 : Vec Ideal S512x1024 .f32) (x1 : Vec Ideal S1x1024 .f32) (x2 : Vec Ideal S1024x2688 .bf16) (x3 : Vec Ideal S1024x2688 .bf16) (x4 : Vec Ideal S2688x1024 .bf16) (x5 : Vec Ideal S1x1024 .f32) (x6 : Vec Ideal S1024x3840 .bf16) (x7 : Vec Ideal S1x128 .f32) (x8 : Vec Ideal S1x128 .f32) (xs : Vec Ideal S1024x256 .bf16)

section blocks
variable (T : FVec Ideal S1024x256 .bf16)

/-- The rows of part `p` after the first feed-forward, the scratch holding `T`. -/
def res (p : Nat) (hp : p < 2) : FVec Ideal S256x1024 .f32 :=
  resB (View.ld x0 (Rect.unit (s := S512x1024) ![256 * p, 0] S256x1024.size (inb2 (256 * p) 0 (by omega) (by omega)))) x1
    (View.ld x2 (Rect.unit (s := S1024x2688) ![0, 0] S1024x1280.size inb_S1024x2688_S1024x1280_0_0))
    (View.ld x3 (Rect.unit (s := S1024x2688) ![0, 0] S1024x1280.size inb_S1024x2688_S1024x1280_0_0))
    (View.ld x2 (Rect.unit (s := S1024x2688) ![0, 1280] S1024x1280.size inb_S1024x2688_S1024x1280_0_1280))
    (View.ld x3 (Rect.unit (s := S1024x2688) ![0, 1280] S1024x1280.size inb_S1024x2688_S1024x1280_0_1280)) T
    (View.ld x4 (Rect.unit (s := S2688x1024) ![0, 0] S1280x1024.size inb_S2688x1024_S1280x1024_0_0))
    (View.ld x4 (Rect.unit (s := S2688x1024) ![1280, 0] S1408x1024.size inb_S2688x1024_S1408x1024_1280_0))

/-- The normalised rows of part `p`. -/
def nrm (p : Nat) (hp : p < 2) : FVec Ideal S256x1024 .bf16 := normB (res x0 x1 x2 x3 x4 T p hp) x5

/-- The scratch's stores when part 0 reads its second group back. -/
def stores0 : List (View.Piece (Elt Ideal) S4x6x256x128 .f32) :=
  six (nrm x0 x1 x2 x3 x4 x5 T 0 (by omega)) x6 x7 x8 0 (by omega) 1 (by omega) []

/-- The scratch's stores when part 0 reads its third group back. -/
def stores1 : List (View.Piece (Elt Ideal) S4x6x256x128 .f32) :=
  six (nrm x0 x1 x2 x3 x4 x5 T 0 (by omega)) x6 x7 x8 2 (by omega) 2 (by omega) (stores0 x0 x1 x2 x3 x4 x5 x6 x7 x8 T)

/-- The scratch's stores when part 1 reads its second group back. -/
def stores2 : List (View.Piece (Elt Ideal) S4x6x256x128 .f32) :=
  six (nrm x0 x1 x2 x3 x4 x5 T 1 (by omega)) x6 x7 x8 1 (by omega) 1 (by omega) (stores1 x0 x1 x2 x3 x4 x5 x6 x7 x8 T)

/-- The scratch's stores when part 1 reads its third group back. -/
def stores3 : List (View.Piece (Elt Ideal) S4x6x256x128 .f32) :=
  six (nrm x0 x1 x2 x3 x4 x5 T 1 (by omega)) x6 x7 x8 3 (by omega) 2 (by omega) (stores2 x0 x1 x2 x3 x4 x5 x6 x7 x8 T)

/-- The stores when part `p` reads its second group back. -/
def second : Nat → List (View.Piece (Elt Ideal) S4x6x256x128 .f32)
  | 0 => stores0 x0 x1 x2 x3 x4 x5 x6 x7 x8 T
  | _ => stores2 x0 x1 x2 x3 x4 x5 x6 x7 x8 T

/-- The stores when part `p` reads its third group back. -/
def third : Nat → List (View.Piece (Elt Ideal) S4x6x256x128 .f32)
  | 0 => stores1 x0 x1 x2 x3 x4 x5 x6 x7 x8 T
  | _ => stores3 x0 x1 x2 x3 x4 x5 x6 x7 x8 T

/-- The block of rows after the first feed-forward: two stores. -/
def block9 : FVec Ideal S512x1024 .f32 :=
  View.canon (Val := Elt Ideal) (e := .f32) (List.ofFn fun j : Fin 2 =>
    ⟨Rect.unit (s := S512x1024) ![256 * (1 - j.val), 0] S256x1024.size (inb2 _ 0 (by omega) (by omega)), res x0 x1 x2 x3 x4 T (1 - j.val) (by omega)⟩)

/-- The block of the first 1536 projected columns: four stores. -/
def block10 : FVec Ideal S512x1536 .bf16 :=
  View.canon (Val := Elt Ideal) (e := .bf16) (List.ofFn fun j : Fin 4 =>
    ⟨Rect.unit (s := S512x1536) ![256 * (1 - j.val / 2), 768 * (1 - j.val % 2)] S256x768.size (inb2 _ _ (by omega) (by omega)),
      wide (res x0 x1 x2 x3 x4 T (1 - j.val / 2) (by omega)) x5
        (View.ld x6 (Rect.unit (s := S1024x3840) ![0, 768 * (1 - j.val % 2)] S1024x768.size (inb2 0 _ (by omega) (by omega))))⟩)

/-- The block of the first group: twelve stores. -/
def block11 : FVec Ideal S512x768 .bf16 :=
  View.canon (Val := Elt Ideal) (e := .bf16) (List.ofFn fun j : Fin 12 =>
    ⟨Rect.unit (s := S512x768) ![256 * (1 - j.val / 6), 128 * (5 - j.val % 6)] S256x128.size (inb2 _ _ (by omega) (by omega)),
      truncf .bf16 (slab (nrm x0 x1 x2 x3 x4 x5 T (1 - j.val / 6) (by omega)) x6 x7 x8 0 (by omega) (5 - j.val % 6)) bitsLt_bf16_f32⟩)

/-- The block of the second group: four residues of each part. -/
def block12 : FVec Ideal S1x4x128x768 .bf16 :=
  View.canon (Val := Elt Ideal) (e := .bf16) (List.ofFn fun j : Fin 8 =>
    ⟨Rect.unit (s := S1x4x128x768) ![0, 3 - j.val % 4, 64 * (1 - j.val / 4), 0] S1x1x64x768.size (inb4 0 _ _ 0 (by omega) (by omega) (by omega) (by omega)),
      piece4 arg15.view (second x0 x1 x2 x3 x4 x5 x6 x7 x8 T (1 - j.val / 4)) (1 - j.val / 4) (3 - j.val % 4) (by omega) (by omega)⟩)

/-- The block of the third group: sixteen residues of each part. -/
def block13 : FVec Ideal S1x16x32x768 .bf16 :=
  View.canon (Val := Elt Ideal) (e := .bf16) (List.ofFn fun j : Fin 32 =>
    ⟨Rect.unit (s := S1x16x32x768) ![0, 15 - j.val % 16, 16 * (1 - j.val / 16), 0] S1x1x16x768.size (inb4 0 _ _ 0 (by omega) (by omega) (by omega) (by omega)),
      piece16 arg15.view (third x0 x1 x2 x3 x4 x5 x6 x7 x8 T (1 - j.val / 16)) (3 - j.val / 16) (15 - j.val % 16) (by omega) (by omega)⟩)

end blocks

/-- The last 128 columns of the two matrices side by side: two stores. -/
def tails : FVec Ideal S1024x256 .bf16 :=
  View.canon (Val := Elt Ideal) (e := .bf16)
    [⟨Rect.unit (s := S1024x256) ![0, 128] S1024x128.size inb_S1024x256_S1024x128_0_128,
        View.ld x3 (Rect.unit (s := S1024x2688) ![0, 2560] S1024x128.size inb_S1024x2688_S1024x128_0_2560)⟩,
      ⟨Rect.unit (s := S1024x256) ![0, 0] S1024x128.size inb_S1024x256_S1024x128_0_0,
        View.ld x2 (Rect.unit (s := S1024x2688) ![0, 2560] S1024x128.size inb_S1024x2688_S1024x128_0_2560)⟩]

/-- At the first point the body leaves the two tails in the scratch. -/
theorem scratch_A (hc0 : cond0_0 i) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = tails x2 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  unfold k0_pay2 k0_pay3
  simp only [shapeCast_self]
  rfl

/-- The scratch read back right after the two stores is the two tails. -/
theorem read_tails (hS : arg16.IsWhole) :
    arg16.view.readCov (Val := Elt Ideal)
      [⟨Rect.unit (s := S1024x256) ![0, 128] S1024x128.size inb_S1024x256_S1024x128_0_128,
          k0_pay3 (View.ld x3 (Rect.unit (s := S1024x2688) ![0, 2560] S1024x128.size inb_S1024x2688_S1024x128_0_2560))⟩,
        ⟨Rect.unit (s := S1024x256) ![0, 0] S1024x128.size inb_S1024x256_S1024x128_0_0,
          k0_pay2 (View.ld x2 (Rect.unit (s := S1024x2688) ![0, 2560] S1024x128.size inb_S1024x2688_S1024x128_0_2560))⟩]
      (Rect.unit (s := S1024x256) ![0, 0] S1024x256.size inb_S1024x256_S1024x256_0_0).toLoadRect = tails x2 x3 := by
  rw [View.readCov_eq_canon']
  unfold k0_pay2 k0_pay3
  simp only [shapeCast_self]
  exact View.ld_unit_zero (Val := Elt Ideal) (e := .bf16) (S := S1024x256) hz inb_S1024x256_S1024x256_0_0 (tails x2 x3)

end Cert.Pieces2

end
-- ==== Proof.First2.lean ====
/- What the body leaves in its five results at the grid's first point, over the scratch it has just written. -/
module

public import proofs.«01_k».proof.Proof.Pieces2

@[expose] public section

set_option maxRecDepth 16384

noncomputable section

namespace Cert.First2

open Idealize.ShloMosaic Idealize.ShloMosaic.TcCoe Cert.Kernel2Ideal Cert.Kernel2Ideal.Gen Cert.Block2 Cert.Pieces2

variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S1024x2688 .bf16) (harg3 : arg3.IsWhole) (arg4 : Memref sig .tc .vmem S1024x2688 .bf16) (harg4 : arg4.IsWhole)
  (arg5 : Memref sig .tc .vmem S2688x1024 .bf16) (harg5 : arg5.IsWhole) (arg6 : Memref sig .tc .vmem S1x1024 .f32) (harg6 : arg6.IsWhole)
  (arg7 : Memref sig .tc .vmem S1024x3840 .bf16) (harg7 : arg7.IsWhole) (arg8 : Memref sig .tc .vmem S1x128 .f32) (harg8 : arg8.IsWhole)
  (arg9 : Memref sig .tc .vmem S1x128 .f32) (harg9 : arg9.IsWhole) (arg10 : Memref sig .tc .vmem S512x1024 .f32) (harg10 : arg10.IsWhole)
  (arg11 : Memref sig .tc .vmem S512x1536 .bf16) (harg11 : arg11.IsWhole) (arg12 : Memref sig .tc .vmem S512x768 .bf16) (harg12 : arg12.IsWhole)
  (arg13 : Memref sig .tc .vmem S1x4x128x768 .bf16) (harg13 : arg13.IsWhole) (arg14 : Memref sig .tc .vmem S1x16x32x768 .bf16) (harg14 : arg14.IsWhole)
  (arg15 : Memref sig .tc .vmem S4x6x256x128 .f32) (harg15 : arg15.IsWhole) (arg16 : Memref sig .tc .vmem S1024x256 .bf16) (harg16 : arg16.IsWhole)
  (x0 : Vec Ideal S512x1024 .f32) (x1 : Vec Ideal S1x1024 .f32) (x2 : Vec Ideal S1024x2688 .bf16) (x3 : Vec Ideal S1024x2688 .bf16) (x4 : Vec Ideal S2688x1024 .bf16) (x5 : Vec Ideal S1x1024 .f32) (x6 : Vec Ideal S1024x3840 .bf16) (x7 : Vec Ideal S1x128 .f32) (x8 : Vec Ideal S1x128 .f32) (xs : Vec Ideal S1024x256 .bf16)

/-- The body leaves the rows after the first feed-forward. -/
theorem out9_A (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = block9 x0 x1 x2 x3 x4 (tails x2 x3) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  simp only [View.ld_unit_zero (S := S1x1024) hz, View.ld_unit_zero (S := S1x128) hz, View.ld_unit_zero (S := S1024x256) hz]
  simp only [read_tails arg16 x2 x3 harg16]
  rfl

/-- The body leaves the first 1536 projected columns. -/
theorem out10_A (hc0 : cond0_0 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = block10 x0 x1 x2 x3 x4 x5 x6 (tails x2 x3) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  simp only [View.ld_unit_zero (S := S1x1024) hz, View.ld_unit_zero (S := S1x128) hz, View.ld_unit_zero (S := S1024x256) hz]
  simp only [read_tails arg16 x2 x3 harg16]
  rfl

/-- The body leaves the first group. -/
theorem out11_A (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = block11 x0 x1 x2 x3 x4 x5 x6 x7 x8 (tails x2 x3) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  simp only [View.ld_unit_zero (S := S1x1024) hz, View.ld_unit_zero (S := S1x128) hz, View.ld_unit_zero (S := S1024x256) hz]
  simp only [read_tails arg16 x2 x3 harg16]
  rfl

set_option maxHeartbeats 4000000 in
/-- The body leaves the second group. -/
theorem out12_A (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = block12 arg15 x0 x1 x2 x3 x4 x5 x6 x7 x8 (tails x2 x3) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  simp only [View.ld_unit_zero (S := S1x1024) hz, View.ld_unit_zero (S := S1x128) hz, View.ld_unit_zero (S := S1024x256) hz]
  simp only [read_tails arg16 x2 x3 harg16]
  rfl

set_option maxHeartbeats 4000000 in
/-- The body leaves the third group. -/
theorem out13_A (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = block13 arg15 x0 x1 x2 x3 x4 x5 x6 x7 x8 (tails x2 x3) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  simp only [View.ld_unit_zero (S := S1x1024) hz, View.ld_unit_zero (S := S1x128) hz, View.ld_unit_zero (S := S1024x256) hz]
  simp only [read_tails arg16 x2 x3 harg16]
  rfl

end Cert.First2

end
-- ==== Proof.Later2.lean ====
/- What the body leaves in its five results at a later point, over the scratch the point before left. -/
module

public import proofs.«01_k».proof.Proof.Pieces2

@[expose] public section

set_option maxRecDepth 16384

noncomputable section

namespace Cert.Later2

open Idealize.ShloMosaic Idealize.ShloMosaic.TcCoe Cert.Kernel2Ideal Cert.Kernel2Ideal.Gen Cert.Block2 Cert.Pieces2

variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S1024x2688 .bf16) (harg3 : arg3.IsWhole) (arg4 : Memref sig .tc .vmem S1024x2688 .bf16) (harg4 : arg4.IsWhole)
  (arg5 : Memref sig .tc .vmem S2688x1024 .bf16) (harg5 : arg5.IsWhole) (arg6 : Memref sig .tc .vmem S1x1024 .f32) (harg6 : arg6.IsWhole)
  (arg7 : Memref sig .tc .vmem S1024x3840 .bf16) (harg7 : arg7.IsWhole) (arg8 : Memref sig .tc .vmem S1x128 .f32) (harg8 : arg8.IsWhole)
  (arg9 : Memref sig .tc .vmem S1x128 .f32) (harg9 : arg9.IsWhole) (arg10 : Memref sig .tc .vmem S512x1024 .f32) (harg10 : arg10.IsWhole)
  (arg11 : Memref sig .tc .vmem S512x1536 .bf16) (harg11 : arg11.IsWhole) (arg12 : Memref sig .tc .vmem S512x768 .bf16) (harg12 : arg12.IsWhole)
  (arg13 : Memref sig .tc .vmem S1x4x128x768 .bf16) (harg13 : arg13.IsWhole) (arg14 : Memref sig .tc .vmem S1x16x32x768 .bf16) (harg14 : arg14.IsWhole)
  (arg15 : Memref sig .tc .vmem S4x6x256x128 .f32) (harg15 : arg15.IsWhole) (arg16 : Memref sig .tc .vmem S1024x256 .bf16) (harg16 : arg16.IsWhole)
  (x0 : Vec Ideal S512x1024 .f32) (x1 : Vec Ideal S1x1024 .f32) (x2 : Vec Ideal S1024x2688 .bf16) (x3 : Vec Ideal S1024x2688 .bf16) (x4 : Vec Ideal S2688x1024 .bf16) (x5 : Vec Ideal S1x1024 .f32) (x6 : Vec Ideal S1024x3840 .bf16) (x7 : Vec Ideal S1x128 .f32) (x8 : Vec Ideal S1x128 .f32) (xs : Vec Ideal S1024x256 .bf16)

/-- The body leaves the rows after the first feed-forward. -/
theorem out9_B (hc0 : ¬cond0_0 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs = block9 x0 x1 x2 x3 x4 xs := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  simp only [View.ld_unit_zero (S := S1x1024) hz, View.ld_unit_zero (S := S1x128) hz, View.ld_unit_zero (S := S1024x256) hz]
  rfl

/-- The body leaves the first 1536 projected columns. -/
theorem out10_B (hc0 : ¬cond0_0 i) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs = block10 x0 x1 x2 x3 x4 x5 x6 xs := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  simp only [View.ld_unit_zero (S := S1x1024) hz, View.ld_unit_zero (S := S1x128) hz, View.ld_unit_zero (S := S1024x256) hz]
  rfl

/-- The body leaves the first group. -/
theorem out11_B (hc0 : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs = block11 x0 x1 x2 x3 x4 x5 x6 x7 x8 xs := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  simp only [View.ld_unit_zero (S := S1x1024) hz, View.ld_unit_zero (S := S1x128) hz, View.ld_unit_zero (S := S1024x256) hz]
  rfl

set_option maxHeartbeats 4000000 in
/-- The body leaves the second group. -/
theorem out12_B (hc0 : ¬cond0_0 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs = block12 arg15 x0 x1 x2 x3 x4 x5 x6 x7 x8 xs := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  simp only [View.ld_unit_zero (S := S1x1024) hz, View.ld_unit_zero (S := S1x128) hz, View.ld_unit_zero (S := S1024x256) hz]
  rfl

set_option maxHeartbeats 4000000 in
/-- The body leaves the third group. -/
theorem out13_B (hc0 : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs = block13 arg15 x0 x1 x2 x3 x4 x5 x6 x7 x8 xs := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg16.read_unread]
  simp only [View.ld_unit_zero (S := S1x1024) hz, View.ld_unit_zero (S := S1x128) hz, View.ld_unit_zero (S := S1024x256) hz]
  rfl

end Cert.Later2

end
-- ==== Proof.Slabs2.lean ====
/- The 128-lane slabs of a dilated group: each one's entries are attention entries of the projected rows, the scratch
   read back holds the slab that was stored, and six slabs side by side are a row of the group. -/
module

public import proofs.«01_k».proof.Proof.Pieces2
public import proofs.«01_k».proof.Proof.Pieces
public import proofs.«01_k».proof.Proof.Heads

@[expose] public section

set_option maxRecDepth 16384

noncomputable section

namespace Cert.Slabs2

open Idealize.ShloMosaic Idealize.ShloMosaic.TcCoe Cert.Kernel2Ideal Cert.Kernel2Ideal.Gen Cert.Block2 Cert.Pieces2 Cert.Rows Cert.Heads
open Cert.Pieces (ld_ix2)

section part
variable (H : FVec Ideal S256x1024 .bf16) (w : Vec Ideal S1024x3840 .bf16) (q k : Vec Ideal S1x128 .f32)

/-- An entry of 256 columns cut from the projection. -/
theorem cols_apply (c : Nat) (h : c + 256 ≤ 3840) (i : Fin 1024) (j : Fin 256) : cols w c h (ix2 i j) = w (ix2 i ⟨c + j.val, by omega⟩) :=
  (ld_ix2 w 0 c (inb2 0 c (by omega) h) i j (by omega) (by omega)).trans (by simp only [Nat.zero_add])

/-- A row of the product with the whole matrix. -/
def prod (r : Fin 256) : Fin 3840 → EReal := lin (fun i => H (ix2 r i)) fun i n => w (ix2 i n)

/-- The first 128 columns of a product with 256 columns are columns of the whole product. -/
theorem lo_cols (c : Nat) (h : c + 256 ≤ 3840) (r : Fin 256) (l : Fin 128) :
    lo (k0_pay36 H (cols w c h)) (ix2 r l) = prod H w r ⟨c + l.val, by omega⟩ := by
  rw [lo_apply]
  simp only [cols_apply]
  rfl

/-- So are the last 128. -/
theorem hi_cols (c : Nat) (h : c + 256 ≤ 3840) (r : Fin 256) (l : Fin 128) :
    hi (k0_pay36 H (cols w c h)) (ix2 r l) = prod H w r ⟨c + 128 + l.val, by omega⟩ := by
  rw [hi_apply]
  simp only [cols_apply]
  unfold prod lin
  have e : (⟨c + (128 + l.val), by omega⟩ : Fin 3840) = ⟨c + 128 + l.val, by omega⟩ := Fin.ext (by simp only; omega)
  rw [e]

/-- Two heads side by side, normalised and scaled, when the lanes are finite. -/
theorem headB_pair (gain : FVec Ideal S1x128 .f32) (y : FVec Ideal S256x128 .f32) (r : Fin 256) (hy : ∀ l, IsReal (y (ix2 r l))) (l : Fin 128) :
    headB gain y (ix2 r l) = headRms (fun t => y (ix2 r ⟨64 * (l.val / 64) + t.val, by omega⟩)) ⟨l.val % 64, by omega⟩ * gain (ix2 0 l) := by
  rw [headB_apply, allSq_apply, lowSq_apply]
  exact congrArg (· * gain (ix2 0 l)) (pair_rms (fun l => y (ix2 r l)) hy l)

variable (gq gk : Fin 64 → EReal) (hq : ∀ l : Fin 128, q (ix2 0 l) = gq ⟨l.val % 64, by omega⟩) (hk : ∀ l : Fin 128, k (ix2 0 l) = gk ⟨l.val % 64, by omega⟩)
  (r : Fin 256) (hp : ∀ n, IsReal (prod H w r n))

include hq in
/-- A slab of queries whose first column is column `c`. -/
theorem query_slab (y : FVec Ideal S256x128 .f32) (c : Nat) (hc : c + 128 ≤ 3840) (hy : ∀ l : Fin 128, y (ix2 r l) = prod H w r ⟨c + l.val, by omega⟩)
    (hp : ∀ n, IsReal (prod H w r n)) (g : Fin 3) (b : Fin 2) (e : c = 1536 + 256 * g.val + 128 * b.val) (l : Fin 128) :
    headB (k0_pay5 q) y (ix2 r l) = attRow (prod H w r) gq gk g ⟨128 * b.val + l.val, by omega⟩ := by
  have hg : k0_pay5 (F := Ideal) q (ix2 0 l) = gq ⟨l.val % 64, by omega⟩ * Ideal.ofBits .f32 0x3E000000#32 := by
    rw [← hq]
    pointwise [k0_pay5]
  rw [headB_pair _ _ _ (fun l => hy l ▸ hp _), hg]
  unfold attRow
  rw [show (⟨(128 * b.val + l.val) / 256, by omega⟩ : Fin 3) = 0 from Fin.ext (by simp only [Fin.val_zero]; omega), ← mul_assoc]
  unfold entry
  have e1 : (⟨(128 * b.val + l.val) % 64, by omega⟩ : Fin 64) = ⟨l.val % 64, by omega⟩ := Fin.ext (by simp only; omega)
  simp only [hy, e1]
  refine congrArg (fun p => headRms p _ * _ * _) (funext fun t => congrArg (prod H w r) (Fin.ext ?_))
  simp only [lane, Fin.val_zero]
  omega

include hk in
/-- A slab of keys whose first column is column `c`. -/
theorem key_slab (y : FVec Ideal S256x128 .f32) (c : Nat) (hc : c + 128 ≤ 3840) (hy : ∀ l : Fin 128, y (ix2 r l) = prod H w r ⟨c + l.val, by omega⟩)
    (hp : ∀ n, IsReal (prod H w r n)) (g : Fin 3) (b : Fin 2) (e : c = 2304 + 256 * g.val + 128 * b.val) (l : Fin 128) :
    headB (k0_pay6 k) y (ix2 r l) = attRow (prod H w r) gq gk g ⟨256 + 128 * b.val + l.val, by omega⟩ := by
  have hg : k0_pay6 (F := Ideal) k (ix2 0 l) = gk ⟨l.val % 64, by omega⟩ := by
    rw [← hk]
    pointwise [k0_pay6]
  rw [headB_pair _ _ _ (fun l => hy l ▸ hp _), hg]
  unfold attRow
  rw [show (⟨(256 + 128 * b.val + l.val) / 256, by omega⟩ : Fin 3) = 1 from Fin.ext (by simp only [Fin.val_one]; omega)]
  unfold entry
  have e1 : (⟨(256 + 128 * b.val + l.val) % 64, by omega⟩ : Fin 64) = ⟨l.val % 64, by omega⟩ := Fin.ext (by simp only; omega)
  simp only [hy, e1]
  refine congrArg (fun p => headRms p _ * _) (funext fun t => congrArg (prod H w r) (Fin.ext ?_))
  simp only [lane, Fin.val_one]
  omega

/-- A slab of values whose first column is column `c`. -/
theorem value_slab (y : FVec Ideal S256x128 .f32) (c : Nat) (hc : c + 128 ≤ 3840) (hy : ∀ l : Fin 128, y (ix2 r l) = prod H w r ⟨c + l.val, by omega⟩)
    (g : Fin 3) (b : Fin 2) (e : c = 3072 + 256 * g.val + 128 * b.val) (l : Fin 128) :
    y (ix2 r l) = attRow (prod H w r) gq gk g ⟨512 + 128 * b.val + l.val, by omega⟩ := by
  unfold attRow
  rw [show (⟨(512 + 128 * b.val + l.val) / 256, by omega⟩ : Fin 3) = 2 from Fin.ext (by simp only [Fin.val_two]; omega), hy]
  unfold entry
  refine congrArg (prod H w r) (Fin.ext ?_)
  simp only [lane, Fin.val_two]
  omega

include hq hk hp in
/-- Slab `s` of group `g` holds lanes `128 s …` of the group's rows. -/
theorem slab_apply (g : Fin 3) (s : Fin 6) (l : Fin 128) :
    slab H w q k g.val g.isLt s.val (ix2 r l) = attRow (prod H w r) gq gk g ⟨128 * s.val + l.val, by omega⟩ := by
  have hg := g.isLt
  match s with
  | ⟨0, _⟩ =>
    exact (query_slab H w q gq gk hq r _ (1536 + 256 * g.val) (by omega) (lo_cols H w _ _ r) hp g 0 rfl l).trans (congrArg (attRow _ _ _ g) (Fin.ext (by simp)))
  | ⟨1, _⟩ =>
    exact (query_slab H w q gq gk hq r _ (1536 + 256 * g.val + 128) (by omega) (hi_cols H w _ _ r) hp g 1 rfl l).trans (congrArg (attRow _ _ _ g) (Fin.ext (by simp)))
  | ⟨2, _⟩ =>
    exact (key_slab H w k gq gk hk r _ (2304 + 256 * g.val) (by omega) (lo_cols H w _ _ r) hp g 0 rfl l).trans (congrArg (attRow _ _ _ g) (Fin.ext (by simp)))
  | ⟨3, _⟩ =>
    exact (key_slab H w k gq gk hk r _ (2304 + 256 * g.val + 128) (by omega) (hi_cols H w _ _ r) hp g 1 rfl l).trans (congrArg (attRow _ _ _ g) (Fin.ext (by simp)))
  | ⟨4, _⟩ =>
    exact (value_slab H w gq gk r _ (3072 + 256 * g.val) (by omega) (lo_cols H w _ _ r) g 0 rfl l).trans (congrArg (attRow _ _ _ g) (Fin.ext (by simp)))
  | ⟨5, _⟩ =>
    exact (value_slab H w gq gk r _ (3072 + 256 * g.val + 128) (by omega) (hi_cols H w _ _ r) g 1 rfl l).trans (congrArg (attRow _ _ _ g) (Fin.ext (by simp)))

/-- A slab just stored is read back from its own place. -/
theorem canon_hit (b s : Nat) (hb : b < 4) (hs : s < 6) (inb) (S : FVec Ideal S256x128 .f32) (L : List (View.Piece (Elt Ideal) S4x6x256x128 .f32)) (R : Fin 256) (l : Fin 128) :
    View.canon (Val := Elt Ideal) (e := .f32) (⟨Rect.unit (s := S4x6x256x128) ![b, s, 0, 0] S1x1x256x128.size inb, shapeCast S1x1x256x128 S shapeCasts_S256x128_S1x1x256x128⟩ :: L)
      (ix4 (⟨b, hb⟩ : Fin 4) (⟨s, hs⟩ : Fin 6) R l) = S (ix2 R l) := by
  have e : (ix4 (⟨b, hb⟩ : Fin 4) (⟨s, hs⟩ : Fin 6) R l : S4x6x256x128.Idx)
      = (Rect.unit (s := S4x6x256x128) ![b, s, 0, 0] S1x1x256x128.size inb).emb (ix4 (0 : Fin 1) (0 : Fin 1) R l) := by
    funext a
    apply Fin.ext
    match a with
    | ⟨0, _⟩ => show b = b + 1 * 0; omega
    | ⟨1, _⟩ => show s = s + 1 * 0; omega
    | ⟨2, _⟩ => show R.val = 0 + 1 * R.val; omega
    | ⟨3, _⟩ => show l.val = 0 + 1 * l.val; omega
  rw [e]
  refine (View.canon_cons_emb _ _ _ _).trans ?_
  pointwise

/-- A slab stored elsewhere is passed over. -/
theorem canon_miss (b s b' s' : Nat) (hb : b < 4) (hs : s < 6) (hne : s ≠ s') (inb) (P : FVec Ideal S1x1x256x128 .f32) (L : List (View.Piece (Elt Ideal) S4x6x256x128 .f32)) (R : Fin 256) (l : Fin 128) :
    View.canon (Val := Elt Ideal) (e := .f32) (⟨Rect.unit (s := S4x6x256x128) ![b', s', 0, 0] S1x1x256x128.size inb, P⟩ :: L)
      (ix4 (⟨b, hb⟩ : Fin 4) (⟨s, hs⟩ : Fin 6) R l) = View.canon (Val := Elt Ideal) (e := .f32) L (ix4 (⟨b, hb⟩ : Fin 4) (⟨s, hs⟩ : Fin 6) R l) := by
  refine View.canon_cons_of_not_mem _ _ fun h => ?_
  have hm : (ix4 (⟨b, hb⟩ : Fin 4) (⟨s, hs⟩ : Fin 6) R l : S4x6x256x128.Idx) ∈ (Rect.unit (s := S4x6x256x128) ![b', s', 0, 0] S1x1x256x128.size inb).set := h
  have h1 := Rect.mem_set_unit.mp hm 1
  have h2 : s' ≤ s := h1.1
  have h3 : s < s' + 1 := h1.2
  omega

/-- After a group's six stores its buffer holds the six slabs. -/
theorem six_apply (b g : Nat) (hb : b < 4) (hg : g < 3) (rest : List (View.Piece (Elt Ideal) S4x6x256x128 .f32)) (s : Fin 6) (R : Fin 256) (l : Fin 128) :
    View.canon (Val := Elt Ideal) (e := .f32) (six H w q k b hb g hg rest) (ix4 (⟨b, hb⟩ : Fin 4) s R l) = slab H w q k g hg s.val (ix2 R l) := by
  unfold six
  match s with
  | ⟨0, _⟩ => exact (canon_miss b 0 b 5 hb (by omega) (by omega) _ _ _ R l).trans ((canon_miss b 0 b 4 hb (by omega) (by omega) _ _ _ R l).trans ((canon_miss b 0 b 3 hb (by omega) (by omega) _ _ _ R l).trans ((canon_miss b 0 b 2 hb (by omega) (by omega) _ _ _ R l).trans ((canon_miss b 0 b 1 hb (by omega) (by omega) _ _ _ R l).trans (canon_hit b 0 hb (by omega) _ _ _ R l)))))
  | ⟨1, _⟩ => exact (canon_miss b 1 b 5 hb (by omega) (by omega) _ _ _ R l).trans ((canon_miss b 1 b 4 hb (by omega) (by omega) _ _ _ R l).trans ((canon_miss b 1 b 3 hb (by omega) (by omega) _ _ _ R l).trans ((canon_miss b 1 b 2 hb (by omega) (by omega) _ _ _ R l).trans (canon_hit b 1 hb (by omega) _ _ _ R l))))
  | ⟨2, _⟩ => exact (canon_miss b 2 b 5 hb (by omega) (by omega) _ _ _ R l).trans ((canon_miss b 2 b 4 hb (by omega) (by omega) _ _ _ R l).trans ((canon_miss b 2 b 3 hb (by omega) (by omega) _ _ _ R l).trans (canon_hit b 2 hb (by omega) _ _ _ R l)))
  | ⟨3, _⟩ => exact (canon_miss b 3 b 5 hb (by omega) (by omega) _ _ _ R l).trans ((canon_miss b 3 b 4 hb (by omega) (by omega) _ _ _ R l).trans (canon_hit b 3 hb (by omega) _ _ _ R l))
  | ⟨4, _⟩ => exact (canon_miss b 4 b 5 hb (by omega) (by omega) _ _ _ R l).trans (canon_hit b 4 hb (by omega) _ _ _ R l)
  | ⟨5, _⟩ => exact canon_hit b 5 hb (by omega) _ _ _ R l

end part

/-- Six pieces of 64 rows side by side. -/
theorem join4 (a : Fin 6 → Vec Ideal S1x1x64x128 .f32) (i : Fin 64) (s : Fin 6) (l : Fin 128) :
    k0_pay53 (k0_pay50 (a 0)) (k0_pay51 (a 1)) (k0_pay52 (a 2)) (a 3) (a 4) (a 5) (ix4 (0 : Fin 1) (0 : Fin 1) i (⟨128 * s.val + l.val, by omega⟩ : Fin 768))
      = a s (ix4 (0 : Fin 1) (0 : Fin 1) i l) := by
  fin_cases s
  all_goals pointwise [k0_pay53, k0_pay50, k0_pay51, k0_pay52]
  all_goals ((repeat' split) <;> first | (exfalso; omega) | exact congrArg (fun n => a _ (ix4 (0 : Fin 1) (0 : Fin 1) i n)) (Fin.ext (by simp only; omega)))

/-- Six pieces of 16 rows side by side. -/
theorem join16 (a : Fin 6 → Vec Ideal S1x1x16x128 .f32) (i : Fin 16) (s : Fin 6) (l : Fin 128) :
    k0_pay80 (a 0) (a 1) (a 2) (a 3) (a 4) (a 5) (ix4 (0 : Fin 1) (0 : Fin 1) i (⟨128 * s.val + l.val, by omega⟩ : Fin 768))
      = a s (ix4 (0 : Fin 1) (0 : Fin 1) i l) := by
  fin_cases s
  all_goals pointwise [k0_pay80]
  all_goals ((repeat' split) <;> first | (exfalso; omega) | exact congrArg (fun n => a _ (ix4 (0 : Fin 1) (0 : Fin 1) i n)) (Fin.ext (by simp only; omega)))

end Cert.Slabs2

end
-- ==== Proof.Blocks2.lean ====
/- The projection kernel's five output blocks, entry by entry: the rows after the first feed-forward, their projection, and
   the projected rows' attention entries in the order each dilated group is stored in. -/
module

public import proofs.«01_k».proof.Proof.Slabs2

@[expose] public section

set_option maxRecDepth 16384

noncomputable section

namespace Cert.Blocks2

open Idealize.ShloMosaic Idealize.ShloMosaic.TcCoe Cert.Kernel2Ideal Cert.Kernel2Ideal.Gen Cert.Block2 Cert.Pieces2 Cert.Rows Cert.Heads Cert.Slabs2
open Cert.Pieces (ld_ix2)

variable (x0 : Vec Ideal S512x1024 .f32) (x1 : Vec Ideal S1x1024 .f32) (x2 : Vec Ideal S1024x2688 .bf16) (x3 : Vec Ideal S1024x2688 .bf16) (x4 : Vec Ideal S2688x1024 .bf16)
  (x5 : Vec Ideal S1x1024 .f32) (x6 : Vec Ideal S1024x3840 .bf16) (x7 : Vec Ideal S1x128 .f32) (x8 : Vec Ideal S1x128 .f32)

/-- A lane of a group is a slab and a lane of the slab. -/
theorem lane_split (w : Fin 768) : ∃ (s : Fin 6) (l : Fin 128), w = ⟨128 * s.val + l.val, by omega⟩ :=
  ⟨⟨w.val / 128, by omega⟩, ⟨w.val % 128, by omega⟩, Fin.ext (by simp only; omega)⟩

/-- Row `R` of the block after the first feed-forward. -/
def rowB (R : Fin 512) : Fin 1024 → EReal :=
  ffnRow (fun k => x0 (ix2 R k)) (fun k => x1 (ix2 0 k)) (fun k j => x2 (ix2 k j)) (fun k j => x3 (ix2 k j)) fun j n => x4 (ix2 j n)

/-- Row `R` of the block projected. -/
def prjB (R : Fin 512) : Fin 3840 → EReal := lin (rms (rowB x0 x1 x2 x3 x4 R) fun k => x5 (ix2 0 k)) fun k n => x6 (ix2 k n)

/-- A part's row, when the scratch holds the two tails. -/
theorem res_apply (p : Nat) (hp : p < 2) (r : Fin 256) (n : Fin 1024) :
    res x0 x1 x2 x3 x4 (tails x2 x3) p hp (ix2 r n) = rowB x0 x1 x2 x3 x4 ⟨256 * p + r.val, by omega⟩ n := by
  unfold res rowB
  rw [resB_apply _ _ _ _ _ _ _ _ _ (fun k j => x2 (ix2 k j)) (fun k j => x3 (ix2 k j)) (fun j n => x4 (ix2 j n))]
  · exact congrArg (fun x => ffnRow x _ _ _ _ n) (funext fun k => (ld_ix2 x0 (256 * p) 0 _ r k (by omega) (by omega)).trans (by simp only [Nat.zero_add]))
  · exact fun k j => (ld_ix2 x2 0 0 _ k j (by omega) (by omega)).trans (by simp only [Nat.zero_add])
  · exact fun k j => (ld_ix2 x3 0 0 _ k j (by omega) (by omega)).trans (by simp only [Nat.zero_add])
  · exact fun k j => (ld_ix2 x2 0 1280 _ k j (by omega) (by omega)).trans (by simp only [Nat.zero_add])
  · exact fun k j => (ld_ix2 x3 0 1280 _ k j (by omega) (by omega)).trans (by simp only [Nat.zero_add])
  · exact fun k j => Cert.Pieces.tails_lo x2 x3 k j
  · exact fun k j => Cert.Pieces.tails_hi x2 x3 k j
  · exact fun j n => (ld_ix2 x4 0 0 _ j n (by omega) (by omega)).trans (by simp only [Nat.zero_add])
  · exact fun j n => (ld_ix2 x4 1280 0 _ j n (by omega) (by omega)).trans (by simp only [Nat.zero_add])

/-- A part's normalised row. -/
theorem nrm_apply (p : Nat) (hp : p < 2) (r : Fin 256) (k : Fin 1024) :
    nrm x0 x1 x2 x3 x4 x5 (tails x2 x3) p hp (ix2 r k) = rms (rowB x0 x1 x2 x3 x4 ⟨256 * p + r.val, by omega⟩) (fun k => x5 (ix2 0 k)) k := by
  unfold nrm
  rw [normB_apply]
  simp only [res_apply]

/-- The rows' projection is the block's. -/
theorem prod_nrm (p : Nat) (hp : p < 2) (r : Fin 256) :
    prod (nrm x0 x1 x2 x3 x4 x5 (tails x2 x3) p hp) x6 r = prjB x0 x1 x2 x3 x4 x5 x6 ⟨256 * p + r.val, by omega⟩ := by
  unfold prod prjB
  simp only [nrm_apply]

/-- The block of rows after the first feed-forward. -/
theorem block9_apply (R : Fin 512) (n : Fin 1024) : block9 x0 x1 x2 x3 x4 (tails x2 x3) (ix2 R n) = rowB x0 x1 x2 x3 x4 R n := by
  unfold block9
  refine View.canon_ofFn_unit_eq_of_forall _ _ _ _ _ _ ⟨⟨1 - R.val / 256, by omega⟩, fun a => ?_⟩ fun j x h => ?_
  · match a with
    | ⟨0, _⟩ =>
      show 256 * (1 - (1 - R.val / 256)) ≤ R.val ∧ R.val < 256 * (1 - (1 - R.val / 256)) + 256
      omega
    | ⟨1, _⟩ =>
      show 0 ≤ n.val ∧ n.val < 0 + 1024
      omega
  · obtain ⟨r, n', rfl⟩ : ∃ (r : Fin 256) (n' : Fin 1024), x = ix2 r n' := ⟨x 0, x 1, by funext a; match a with | ⟨0, _⟩ => rfl | ⟨1, _⟩ => rfl⟩
    have h0 : R.val = 256 * (1 - j.val) + r.val := h 0
    have h1 : n.val = 0 + n'.val := h 1
    obtain rfl : n = n' := Fin.ext (by omega)
    exact (res_apply x0 x1 x2 x3 x4 _ _ r n).trans (congrArg (rowB x0 x1 x2 x3 x4 · n) (Fin.ext h0.symm))

/-- The block of the first 1536 projected columns. -/
theorem block10_apply (R : Fin 512) (n : Fin 1536) :
    block10 x0 x1 x2 x3 x4 x5 x6 (tails x2 x3) (ix2 R n) = prjB x0 x1 x2 x3 x4 x5 x6 R ⟨n.val, by omega⟩ := by
  unfold block10
  refine View.canon_ofFn_unit_eq_of_forall _ _ _ _ _ _ ⟨⟨2 * (1 - R.val / 256) + (1 - n.val / 768), by omega⟩, fun a => ?_⟩ fun j x h => ?_
  · match a with
    | ⟨0, _⟩ =>
      show 256 * (1 - (2 * (1 - R.val / 256) + (1 - n.val / 768)) / 2) ≤ R.val ∧ R.val < 256 * (1 - (2 * (1 - R.val / 256) + (1 - n.val / 768)) / 2) + 256
      omega
    | ⟨1, _⟩ =>
      show 768 * (1 - (2 * (1 - R.val / 256) + (1 - n.val / 768)) % 2) ≤ n.val ∧ n.val < 768 * (1 - (2 * (1 - R.val / 256) + (1 - n.val / 768)) % 2) + 768
      omega
  · obtain ⟨r, n', rfl⟩ : ∃ (r : Fin 256) (n' : Fin 768), x = ix2 r n' := ⟨x 0, x 1, by funext a; match a with | ⟨0, _⟩ => rfl | ⟨1, _⟩ => rfl⟩
    have h0 : R.val = 256 * (1 - j.val / 2) + r.val := h 0
    have h1 : n.val = 768 * (1 - j.val % 2) + n'.val := h 1
    have hR : (⟨256 * (1 - j.val / 2) + r.val, by omega⟩ : Fin 512) = R := Fin.ext h0.symm
    refine (wide_apply _ x5 _ r n').trans ?_
    unfold prjB lin
    refine Finset.sum_congr rfl fun k _ => congrArg₂ (· * ·) ?_ ?_
    · exact (nrm_apply x0 x1 x2 x3 x4 x5 _ (by omega) r k).trans (by rw [hR])
    · refine (ld_ix2 x6 0 (768 * (1 - j.val % 2)) _ k n' (by omega) (by omega)).trans (congrArg x6 ?_)
      exact congrArg₂ ix2 (Fin.ext (Nat.zero_add _)) (Fin.ext h1.symm)

section heads
variable (gq gk : Fin 64 → EReal) (hq : ∀ l : Fin 128, x7 (ix2 0 l) = gq ⟨l.val % 64, Nat.mod_lt _ (Nat.succ_pos 63)⟩) (hk : ∀ l : Fin 128, x8 (ix2 0 l) = gk ⟨l.val % 64, Nat.mod_lt _ (Nat.succ_pos 63)⟩)
  (hp : ∀ R n, IsReal (prjB x0 x1 x2 x3 x4 x5 x6 R n))

/-- Row `R` of group `g`. -/
def attB (g : Fin 3) (R : Fin 512) : Fin 768 → EReal := attRow (prjB x0 x1 x2 x3 x4 x5 x6 R) gq gk g

include hq hk hp in
/-- A slab of part `p`, at the block's row. -/
theorem slab_part (p : Nat) (hlt : p < 2) (g : Fin 3) (s : Fin 6) (r : Fin 256) (l : Fin 128) :
    slab (nrm x0 x1 x2 x3 x4 x5 (tails x2 x3) p hlt) x6 x7 x8 g.val g.isLt s.val (ix2 r l)
      = attB x0 x1 x2 x3 x4 x5 x6 gq gk g ⟨256 * p + r.val, by omega⟩ ⟨128 * s.val + l.val, by omega⟩ := by
  rw [slab_apply _ x6 x7 x8 gq gk hq hk r (fun n => by rw [prod_nrm]; exact hp _ n) g s l, prod_nrm]
  rfl

include hq hk hp in
/-- The block of the first group. -/
theorem block11_apply (R : Fin 512) (w : Fin 768) :
    block11 x0 x1 x2 x3 x4 x5 x6 x7 x8 (tails x2 x3) (ix2 R w) = attB x0 x1 x2 x3 x4 x5 x6 gq gk 0 R w := by
  unfold block11
  refine View.canon_ofFn_unit_eq_of_forall _ _ _ _ _ _ ⟨⟨6 * (1 - R.val / 256) + (5 - w.val / 128), by omega⟩, fun a => ?_⟩ fun j x h => ?_
  · match a with
    | ⟨0, _⟩ =>
      show 256 * (1 - (6 * (1 - R.val / 256) + (5 - w.val / 128)) / 6) ≤ R.val ∧ R.val < 256 * (1 - (6 * (1 - R.val / 256) + (5 - w.val / 128)) / 6) + 256
      omega
    | ⟨1, _⟩ =>
      show 128 * (5 - (6 * (1 - R.val / 256) + (5 - w.val / 128)) % 6) ≤ w.val ∧ w.val < 128 * (5 - (6 * (1 - R.val / 256) + (5 - w.val / 128)) % 6) + 128
      omega
  · obtain ⟨r, l, rfl⟩ : ∃ (r : Fin 256) (l : Fin 128), x = ix2 r l := ⟨x 0, x 1, by funext a; match a with | ⟨0, _⟩ => rfl | ⟨1, _⟩ => rfl⟩
    have h0 : R.val = 256 * (1 - j.val / 6) + r.val := h 0
    have h1 : w.val = 128 * (5 - j.val % 6) + l.val := h 1
    refine (slab_part x0 x1 x2 x3 x4 x5 x6 x7 x8 gq gk hq hk hp (1 - j.val / 6) (by omega) 0 ⟨5 - j.val % 6, by omega⟩ r l).trans ?_
    exact congrArg₂ (attB x0 x1 x2 x3 x4 x5 x6 gq gk 0) (Fin.ext h0.symm) (Fin.ext h1.symm)

include hq hk hp in
/-- The scratch after a group's six stores, at the block's row. -/
theorem six_part (p : Nat) (hlt : p < 2) (g : Fin 3) (b : Nat) (hb : b < 4) (rest : List (View.Piece (Elt Ideal) S4x6x256x128 .f32)) (s : Fin 6) (r : Fin 256) (l : Fin 128) :
    View.canon (Val := Elt Ideal) (e := .f32) (six (nrm x0 x1 x2 x3 x4 x5 (tails x2 x3) p hlt) x6 x7 x8 b hb g.val g.isLt rest) (ix4 (⟨b, hb⟩ : Fin 4) s r l)
      = attB x0 x1 x2 x3 x4 x5 x6 gq gk g ⟨256 * p + r.val, by omega⟩ ⟨128 * s.val + l.val, by omega⟩ :=
  (six_apply _ x6 x7 x8 b g.val hb g.isLt rest s r l).trans (slab_part x0 x1 x2 x3 x4 x5 x6 x7 x8 gq gk hq hk hp p hlt g s r l)

include hq hk hp in
/-- The scratch when part `p` reads its second group back. -/
theorem second_apply (p : Nat) (hlt : p < 2) (s : Fin 6) (r : Fin 256) (l : Fin 128) :
    View.canon (Val := Elt Ideal) (e := .f32) (second x0 x1 x2 x3 x4 x5 x6 x7 x8 (tails x2 x3) p) (ix4 (⟨p, by omega⟩ : Fin 4) s r l)
      = attB x0 x1 x2 x3 x4 x5 x6 gq gk 1 ⟨256 * p + r.val, by omega⟩ ⟨128 * s.val + l.val, by omega⟩ := by
  match p, hlt with
  | 0, h => exact six_part x0 x1 x2 x3 x4 x5 x6 x7 x8 gq gk hq hk hp 0 h 1 0 (by omega) _ s r l
  | 1, h => exact six_part x0 x1 x2 x3 x4 x5 x6 x7 x8 gq gk hq hk hp 1 h 1 1 (by omega) _ s r l

include hq hk hp in
/-- The scratch when part `p` reads its third group back. -/
theorem third_apply (p : Nat) (hlt : p < 2) (s : Fin 6) (r : Fin 256) (l : Fin 128) :
    View.canon (Val := Elt Ideal) (e := .f32) (third x0 x1 x2 x3 x4 x5 x6 x7 x8 (tails x2 x3) p) (ix4 (⟨2 + p, by omega⟩ : Fin 4) s r l)
      = attB x0 x1 x2 x3 x4 x5 x6 gq gk 2 ⟨256 * p + r.val, by omega⟩ ⟨128 * s.val + l.val, by omega⟩ := by
  match p, hlt with
  | 0, h => exact six_part x0 x1 x2 x3 x4 x5 x6 x7 x8 gq gk hq hk hp 0 h 2 2 (by omega) _ s r l
  | 1, h => exact six_part x0 x1 x2 x3 x4 x5 x6 x7 x8 gq gk hq hk hp 1 h 2 3 (by omega) _ s r l

end heads

/-- A stride-4 read of a slab. -/
theorem by4_idx (b s r : Nat) (hb : b < 4) (hs : s < 6) (hr : r < 4) (i : Fin 64) (l : Fin 128) :
    (by4 b s r hb hs hr).idx (ix4 (0 : Fin 1) (0 : Fin 1) i l) = ix4 (⟨b, hb⟩ : Fin 4) (⟨s, hs⟩ : Fin 6) (⟨4 * i.val + r, by omega⟩ : Fin 256) l := by
  funext a
  apply Fin.ext
  match a with
  | ⟨0, _⟩ => show b + 1 * 0 = b; omega
  | ⟨1, _⟩ => show s + 1 * 0 = s; omega
  | ⟨2, _⟩ => show r + 4 * i.val = 4 * i.val + r; omega
  | ⟨3, _⟩ => show 0 + 1 * l.val = l.val; omega

/-- A stride-16 read of a slab. -/
theorem by16_idx (b s r : Nat) (hb : b < 4) (hs : s < 6) (hr : r < 16) (i : Fin 16) (l : Fin 128) :
    (by16 b s r hb hs hr).idx (ix4 (0 : Fin 1) (0 : Fin 1) i l) = ix4 (⟨b, hb⟩ : Fin 4) (⟨s, hs⟩ : Fin 6) (⟨16 * i.val + r, by omega⟩ : Fin 256) l := by
  funext a
  apply Fin.ext
  match a with
  | ⟨0, _⟩ => show b + 1 * 0 = b; omega
  | ⟨1, _⟩ => show s + 1 * 0 = s; omega
  | ⟨2, _⟩ => show r + 16 * i.val = 16 * i.val + r; omega
  | ⟨3, _⟩ => show 0 + 1 * l.val = l.val; omega

/-- A row of the rows read at stride 4: the six slabs' entries. -/
theorem piece4_apply (v : View sig .tc .vmem S4x6x256x128 .f32) (L : List (View.Piece (Elt Ideal) S4x6x256x128 .f32)) (b r : Nat) (hb : b < 4) (hr : r < 4)
    (i : Fin 64) (s : Fin 6) (l : Fin 128) :
    piece4 v L b r hb hr (ix4 (0 : Fin 1) (0 : Fin 1) i (⟨128 * s.val + l.val, by omega⟩ : Fin 768))
      = View.canon (Val := Elt Ideal) (e := .f32) L (ix4 (⟨b, hb⟩ : Fin 4) s (⟨4 * i.val + r, by omega⟩ : Fin 256) l) := by
  refine (join4 (fun s => v.readCov (Val := Elt Ideal) L (by4 b s.val r hb s.isLt hr)) i s l).trans ?_
  rw [View.readCov_eq_canon']
  exact congrArg _ (by4_idx b s.val r hb s.isLt hr i l)

/-- A row of the rows read at stride 16: the six slabs' entries. -/
theorem piece16_apply (v : View sig .tc .vmem S4x6x256x128 .f32) (L : List (View.Piece (Elt Ideal) S4x6x256x128 .f32)) (b r : Nat) (hb : b < 4) (hr : r < 16)
    (i : Fin 16) (s : Fin 6) (l : Fin 128) :
    piece16 v L b r hb hr (ix4 (0 : Fin 1) (0 : Fin 1) i (⟨128 * s.val + l.val, by omega⟩ : Fin 768))
      = View.canon (Val := Elt Ideal) (e := .f32) L (ix4 (⟨b, hb⟩ : Fin 4) s (⟨16 * i.val + r, by omega⟩ : Fin 256) l) := by
  refine (join16 (fun s => v.readCov (Val := Elt Ideal) L (by16 b s.val r hb s.isLt hr)) i s l).trans ?_
  rw [View.readCov_eq_canon']
  exact congrArg _ (by16_idx b s.val r hb s.isLt hr i l)

section groups
variable (v : Memref sig .tc .vmem S4x6x256x128 .f32)
  (gq gk : Fin 64 → EReal) (hq : ∀ l : Fin 128, x7 (ix2 0 l) = gq ⟨l.val % 64, Nat.mod_lt _ (Nat.succ_pos 63)⟩) (hk : ∀ l : Fin 128, x8 (ix2 0 l) = gk ⟨l.val % 64, Nat.mod_lt _ (Nat.succ_pos 63)⟩)
  (hp : ∀ R n, IsReal (prjB x0 x1 x2 x3 x4 x5 x6 R n))

include hq hk hp in
/-- The block of the second group: place `i` of residue `r` is row `4 i + r`. -/
theorem block12_apply (r : Fin 4) (i : Fin 128) (w : Fin 768) :
    block12 v x0 x1 x2 x3 x4 x5 x6 x7 x8 (tails x2 x3) (ix4 (0 : Fin 1) r i w) = attB x0 x1 x2 x3 x4 x5 x6 gq gk 1 ⟨4 * i.val + r.val, by omega⟩ w := by
  unfold block12
  refine View.canon_ofFn_unit_eq_of_forall _ _ _ _ _ _ ⟨⟨4 * (1 - i.val / 64) + (3 - r.val), by omega⟩, fun a => ?_⟩ fun j x h => ?_
  · match a with
    | ⟨0, _⟩ => exact ⟨Nat.zero_le _, Nat.zero_lt_one⟩
    | ⟨1, _⟩ =>
      show 3 - (4 * (1 - i.val / 64) + (3 - r.val)) % 4 ≤ r.val ∧ r.val < 3 - (4 * (1 - i.val / 64) + (3 - r.val)) % 4 + 1
      omega
    | ⟨2, _⟩ =>
      show 64 * (1 - (4 * (1 - i.val / 64) + (3 - r.val)) / 4) ≤ i.val ∧ i.val < 64 * (1 - (4 * (1 - i.val / 64) + (3 - r.val)) / 4) + 64
      omega
    | ⟨3, _⟩ =>
      show 0 ≤ w.val ∧ w.val < 0 + 768
      omega
  · obtain ⟨z, z', i', w', rfl⟩ : ∃ (z : Fin 1) (z' : Fin 1) (i' : Fin 64) (w' : Fin 768), x = ix4 z z' i' w' :=
      ⟨x 0, x 1, x 2, x 3, by funext a; match a with | ⟨0, _⟩ => rfl | ⟨1, _⟩ => rfl | ⟨2, _⟩ => rfl | ⟨3, _⟩ => rfl⟩
    have h1 : r.val = 3 - j.val % 4 + z'.val := h 1
    have h2 : i.val = 64 * (1 - j.val / 4) + i'.val := h 2
    have h3 : w.val = 0 + w'.val := h 3
    obtain rfl : z = 0 := Subsingleton.elim _ _
    obtain rfl : z' = 0 := Subsingleton.elim _ _
    have hz : ((0 : Fin 1) : Nat) = 0 := rfl
    obtain rfl : w = w' := Fin.ext (by omega)
    obtain ⟨s, l, rfl⟩ := lane_split w
    refine (piece4_apply _ _ _ _ _ _ i' s l).trans ?_
    refine (second_apply x0 x1 x2 x3 x4 x5 x6 x7 x8 gq gk hq hk hp (1 - j.val / 4) (by omega) s _ l).trans ?_
    refine congrArg (attB x0 x1 x2 x3 x4 x5 x6 gq gk 1 · _) (Fin.ext ?_)
    simp only
    omega

include hq hk hp in
/-- The block of the third group: place `i` of residue `r` is row `16 i + r`. -/
theorem block13_apply (r : Fin 16) (i : Fin 32) (w : Fin 768) :
    block13 v x0 x1 x2 x3 x4 x5 x6 x7 x8 (tails x2 x3) (ix4 (0 : Fin 1) r i w) = attB x0 x1 x2 x3 x4 x5 x6 gq gk 2 ⟨16 * i.val + r.val, by omega⟩ w := by
  unfold block13
  refine View.canon_ofFn_unit_eq_of_forall _ _ _ _ _ _ ⟨⟨16 * (1 - i.val / 16) + (15 - r.val), by omega⟩, fun a => ?_⟩ fun j x h => ?_
  · match a with
    | ⟨0, _⟩ => exact ⟨Nat.zero_le _, Nat.zero_lt_one⟩
    | ⟨1, _⟩ =>
      show 15 - (16 * (1 - i.val / 16) + (15 - r.val)) % 16 ≤ r.val ∧ r.val < 15 - (16 * (1 - i.val / 16) + (15 - r.val)) % 16 + 1
      omega
    | ⟨2, _⟩ =>
      show 16 * (1 - (16 * (1 - i.val / 16) + (15 - r.val)) / 16) ≤ i.val ∧ i.val < 16 * (1 - (16 * (1 - i.val / 16) + (15 - r.val)) / 16) + 16
      omega
    | ⟨3, _⟩ =>
      show 0 ≤ w.val ∧ w.val < 0 + 768
      omega
  · obtain ⟨z, z', i', w', rfl⟩ : ∃ (z : Fin 1) (z' : Fin 1) (i' : Fin 16) (w' : Fin 768), x = ix4 z z' i' w' :=
      ⟨x 0, x 1, x 2, x 3, by funext a; match a with | ⟨0, _⟩ => rfl | ⟨1, _⟩ => rfl | ⟨2, _⟩ => rfl | ⟨3, _⟩ => rfl⟩
    have h1 : r.val = 15 - j.val % 16 + z'.val := h 1
    have h2 : i.val = 16 * (1 - j.val / 16) + i'.val := h 2
    have h3 : w.val = 0 + w'.val := h 3
    obtain rfl : z = 0 := Subsingleton.elim _ _
    obtain rfl : z' = 0 := Subsingleton.elim _ _
    have hz : ((0 : Fin 1) : Nat) = 0 := rfl
    obtain rfl : w = w' := Fin.ext (by omega)
    obtain ⟨s, l, rfl⟩ := lane_split w
    refine (piece16_apply _ _ _ _ _ _ i' s l).trans ?_
    have hb : (⟨3 - j.val / 16, by omega⟩ : Fin 4) = ⟨2 + (1 - j.val / 16), by omega⟩ := Fin.ext (by simp only; omega)
    rw [hb]
    refine (third_apply x0 x1 x2 x3 x4 x5 x6 x7 x8 gq gk hq hk hp (1 - j.val / 16) (by omega) s _ l).trans ?_
    refine congrArg (attB x0 x1 x2 x3 x4 x5 x6 gq gk 2 · _) (Fin.ext ?_)
    simp only
    omega

end groups

end Cert.Blocks2

end
-- ==== Proof.Inputs2.lean ====
/- What each input window of the projection kernel holds at a grid point, entry by entry, in terms of the launch's
   arguments: the first window steps by 512 rows, the others hold their whole array at every point, and the two gains
   of a head stand twice side by side. -/
module

public import proofs.«01_k».proof.Proof.Gen.Kernel2Ideal.Frame
public import proofs.«01_k».proof.Proof.Rows
public import proofs.«01_k».proof.Proof.Windows
public import Idealize.ShloMosaic.Lib.StableHlo.ReadAt

@[expose] public section

set_option maxRecDepth 16384

noncomputable section

namespace Cert.Inputs2

open Idealize.ShloMosaic Idealize.ShloMosaic.TcCoe Cert.Kernel2Ideal Cert.Kernel2Ideal.Gen Cert.Windows

variable (m : (l : Loc nD τ sig) → Buf (Elt Ideal) l) (c : Dev nD)

/-- The block where window 0 stands at each point. -/
theorem at0 : ∀ t : Fin grid0.N, win0_0.index t 0 = t.val ∧ win0_0.index t 1 = 0 := by decide +kernel

/-- Window 0 at point `t` holds the rows `512 t …` of argument 0. -/
theorem blk0 (t : Fin cfg0.N) (r : Fin 512) (k : Fin 1024) (h : 512 * t.val + r.val < 32768) :
    iblk m c 0 t (ix2 r k) = m ((c : Thread nD τ).loc main_arg0) (ix2 (⟨512 * t.val + r.val, h⟩ : Fin 32768) k) := by
  unfold iblk
  rw [View.read_apply]
  exact (read_rows 512 (V m c main_arg0) _ r k (at0 t) h rfl rfl).trans (by rw [V_main_arg0])

/-- The block where window 1 stands at each point. -/
theorem at1 : ∀ t : Fin grid0.N, win0_1.index t 0 = 0 ∧ win0_1.index t 1 = 0 := by decide +kernel

/-- The array behind window 1, as the host leaves it before the launch. -/
theorem host1 (k : Fin 1024) : V m c main_v0 (ix2 (0 : Fin 1) k) = m ((c : Thread nD τ).loc main_arg1) (ix1 k) := by
  unfold V
  after_reads_at

/-- Window 1 holds argument 1 as a row. -/
theorem blk1 (t : Fin cfg0.N) (k : Fin 1024) :
    iblk m c 1 t (ix2 (0 : Fin 1) k) = m ((c : Thread nD τ).loc main_arg1) (ix1 k) := by
  unfold iblk
  rw [View.read_apply]
  exact (read_whole (V m c main_v0) _ 0 k (at1 t) rfl rfl).trans (host1 m c k)

/-- The block where window 2 stands at each point. -/
theorem at2 : ∀ t : Fin grid0.N, win0_2.index t 0 = 0 ∧ win0_2.index t 1 = 0 := by decide +kernel

/-- The array behind window 2, as the host leaves it before the launch. -/
theorem host2 (k : Fin 1024) (n : Fin 2688) : V m c main_v1 (ix2 k n) = m ((c : Thread nD τ).loc main_arg2) (ix2 k n) := by
  unfold V
  after_reads_at

/-- Window 2 holds argument 2. -/
theorem blk2 (t : Fin cfg0.N) (k : Fin 1024) (n : Fin 2688) :
    iblk m c 2 t (ix2 k n) = m ((c : Thread nD τ).loc main_arg2) (ix2 k n) := by
  unfold iblk
  rw [View.read_apply]
  exact (read_whole (V m c main_v1) _ k n (at2 t) rfl rfl).trans (host2 m c k n)

/-- The block where window 3 stands at each point. -/
theorem at3 : ∀ t : Fin grid0.N, win0_3.index t 0 = 0 ∧ win0_3.index t 1 = 0 := by decide +kernel

/-- The array behind window 3, as the host leaves it before the launch. -/
theorem host3 (k : Fin 1024) (n : Fin 2688) : V m c main_v2 (ix2 k n) = m ((c : Thread nD τ).loc main_arg3) (ix2 k n) := by
  unfold V
  after_reads_at

/-- Window 3 holds argument 3. -/
theorem blk3 (t : Fin cfg0.N) (k : Fin 1024) (n : Fin 2688) :
    iblk m c 3 t (ix2 k n) = m ((c : Thread nD τ).loc main_arg3) (ix2 k n) := by
  unfold iblk
  rw [View.read_apply]
  exact (read_whole (V m c main_v2) _ k n (at3 t) rfl rfl).trans (host3 m c k n)

/-- The block where window 4 stands at each point. -/
theorem at4 : ∀ t : Fin grid0.N, win0_4.index t 0 = 0 ∧ win0_4.index t 1 = 0 := by decide +kernel

/-- The array behind window 4, as the host leaves it before the launch. -/
theorem host4 (k : Fin 2688) (n : Fin 1024) : V m c main_v3 (ix2 k n) = m ((c : Thread nD τ).loc main_arg4) (ix2 k n) := by
  unfold V
  after_reads_at

/-- Window 4 holds argument 4. -/
theorem blk4 (t : Fin cfg0.N) (k : Fin 2688) (n : Fin 1024) :
    iblk m c 4 t (ix2 k n) = m ((c : Thread nD τ).loc main_arg4) (ix2 k n) := by
  unfold iblk
  rw [View.read_apply]
  exact (read_whole (V m c main_v3) _ k n (at4 t) rfl rfl).trans (host4 m c k n)

/-- The block where window 5 stands at each point. -/
theorem at5 : ∀ t : Fin grid0.N, win0_5.index t 0 = 0 ∧ win0_5.index t 1 = 0 := by decide +kernel

/-- The array behind window 5, as the host leaves it before the launch. -/
theorem host5 (k : Fin 1024) : V m c main_v4 (ix2 (0 : Fin 1) k) = m ((c : Thread nD τ).loc main_arg5) (ix1 k) := by
  unfold V
  after_reads_at

/-- Window 5 holds argument 5 as a row. -/
theorem blk5 (t : Fin cfg0.N) (k : Fin 1024) :
    iblk m c 5 t (ix2 (0 : Fin 1) k) = m ((c : Thread nD τ).loc main_arg5) (ix1 k) := by
  unfold iblk
  rw [View.read_apply]
  exact (read_whole (V m c main_v4) _ 0 k (at5 t) rfl rfl).trans (host5 m c k)

/-- The block where window 6 stands at each point. -/
theorem at6 : ∀ t : Fin grid0.N, win0_6.index t 0 = 0 ∧ win0_6.index t 1 = 0 := by decide +kernel

/-- The array behind window 6, as the host leaves it before the launch. -/
theorem host6 (k : Fin 1024) (n : Fin 3840) : V m c main_v5 (ix2 k n) = m ((c : Thread nD τ).loc main_arg6) (ix2 k n) := by
  unfold V
  after_reads_at

/-- Window 6 holds argument 6. -/
theorem blk6 (t : Fin cfg0.N) (k : Fin 1024) (n : Fin 3840) :
    iblk m c 6 t (ix2 k n) = m ((c : Thread nD τ).loc main_arg6) (ix2 k n) := by
  unfold iblk
  rw [View.read_apply]
  exact (read_whole (V m c main_v5) _ k n (at6 t) rfl rfl).trans (host6 m c k n)

/-- The block where window 7 stands at each point. -/
theorem at7 : ∀ t : Fin grid0.N, win0_7.index t 0 = 0 ∧ win0_7.index t 1 = 0 := by decide +kernel

/-- The array behind window 7, as the host leaves it before the launch. -/
theorem host7 (l : Fin 128) : V m c main_v9 (ix2 (0 : Fin 1) l) = m ((c : Thread nD τ).loc main_arg7) (ix1 (⟨l.val % 64, by omega⟩ : Fin 64)) := by
  unfold V
  after_reads_at

/-- Window 7 holds argument 7 twice side by side. -/
theorem blk7 (t : Fin cfg0.N) (l : Fin 128) :
    iblk m c 7 t (ix2 (0 : Fin 1) l) = m ((c : Thread nD τ).loc main_arg7) (ix1 (⟨l.val % 64, by omega⟩ : Fin 64)) := by
  unfold iblk
  rw [View.read_apply]
  exact (read_whole (V m c main_v9) _ 0 l (at7 t) rfl rfl).trans (host7 m c l)

/-- The block where window 8 stands at each point. -/
theorem at8 : ∀ t : Fin grid0.N, win0_8.index t 0 = 0 ∧ win0_8.index t 1 = 0 := by decide +kernel

/-- The array behind window 8, as the host leaves it before the launch. -/
theorem host8 (l : Fin 128) : V m c main_v13 (ix2 (0 : Fin 1) l) = m ((c : Thread nD τ).loc main_arg8) (ix1 (⟨l.val % 64, by omega⟩ : Fin 64)) := by
  unfold V
  after_reads_at

/-- Window 8 holds argument 8 twice side by side. -/
theorem blk8 (t : Fin cfg0.N) (l : Fin 128) :
    iblk m c 8 t (ix2 (0 : Fin 1) l) = m ((c : Thread nD τ).loc main_arg8) (ix1 (⟨l.val % 64, by omega⟩ : Fin 64)) := by
  unfold iblk
  rw [View.read_apply]
  exact (read_whole (V m c main_v13) _ 0 l (at8 t) rfl rfl).trans (host8 m c l)

end Cert.Inputs2

end
-- ==== Proof.Fold2.lean ====
/- What the projection kernel's five output arrays hold, index by index, in terms of the launch's arguments: at every grid
   point the body leaves the five blocks, with the scratch holding the same tails of the two feed-forward matrices
   throughout. -/
module

public import proofs.«01_k».proof.Proof.Gen.Kernel2Ideal.Value
public import proofs.«01_k».proof.Proof.First2
public import proofs.«01_k».proof.Proof.Later2
public import proofs.«01_k».proof.Proof.Blocks2
public import proofs.«01_k».proof.Proof.Inputs2

@[expose] public section

set_option maxRecDepth 16384

noncomputable section

namespace Cert.Fold2

open Idealize.ShloMosaic Idealize.ShloMosaic.TcCoe Cert.Kernel2Ideal Cert.Kernel2Ideal.Gen Cert.Rows Cert.Heads Cert.Pieces2 Cert.Blocks2 Cert.Inputs2 Cert.Windows

variable (m : (l : Loc nD τ sig) → Buf (Elt Ideal) l) (c : Dev nD)

/-- The two feed-forward matrices' windows hold the same at every point. -/
theorem same2 (t u : Fin cfg0.N) : iblk m c 2 t = iblk m c 2 u := by
  funext j
  obtain ⟨k, n, rfl⟩ : ∃ (k : Fin 1024) (n : Fin 2688), j = ix2 k n := ⟨j 0, j 1, ix2_of _ _ _ rfl rfl⟩
  exact (blk2 m c t k n).trans (blk2 m c u k n).symm

/-- The same of the second matrix. -/
theorem same3 (t u : Fin cfg0.N) : iblk m c 3 t = iblk m c 3 u := by
  funext j
  obtain ⟨k, n, rfl⟩ : ∃ (k : Fin 1024) (n : Fin 2688), j = ix2 k n := ⟨j 0, j 1, ix2_of _ _ _ rfl rfl⟩
  exact (blk3 m c t k n).trans (blk3 m c u k n).symm

section tuples
variable {A B C D E G : Type} {a a' : A} {b b' : B} {d d' : C} {e e' : D} {f f' : E} {g g' : G}

/-- Equal parts make equal tuples. -/
theorem tuple6 (h1 : a = a') (h2 : b = b') (h3 : d = d') (h4 : e = e') (h5 : f = f') (h6 : g = g') :
    (a, b, d, e, f, g) = (a', b', d', e', f', g') := by
  subst h1 h2 h3 h4 h5 h6; rfl

/-- A tuple known whole is known part by part. -/
theorem parts6 {p : A × B × C × D × E × G} (h : p = (a, b, d, e, f, g)) :
    p.1 = a ∧ p.2.1 = b ∧ p.2.2.1 = d ∧ p.2.2.2.1 = e ∧ p.2.2.2.2.1 = f ∧ p.2.2.2.2.2 = g := by
  subst h; exact ⟨rfl, rfl, rfl, rfl, rfl, rfl⟩

end tuples

/-- What the body leaves at point `t`: the five blocks of the point's input blocks, and the tails. -/
abbrev Leaves (t : Fin cfg0.N) : Prop := outsAt0 m c t.val t.isLt
    = (block9 (iblk m c 0 t) (iblk m c 1 t) (iblk m c 2 t) (iblk m c 3 t) (iblk m c 4 t) (tails (iblk m c 2 t) (iblk m c 3 t)),
       block10 (iblk m c 0 t) (iblk m c 1 t) (iblk m c 2 t) (iblk m c 3 t) (iblk m c 4 t) (iblk m c 5 t) (iblk m c 6 t) (tails (iblk m c 2 t) (iblk m c 3 t)),
       block11 (iblk m c 0 t) (iblk m c 1 t) (iblk m c 2 t) (iblk m c 3 t) (iblk m c 4 t) (iblk m c 5 t) (iblk m c 6 t) (iblk m c 7 t) (iblk m c 8 t) (tails (iblk m c 2 t) (iblk m c 3 t)),
       block12 scM0_0 (iblk m c 0 t) (iblk m c 1 t) (iblk m c 2 t) (iblk m c 3 t) (iblk m c 4 t) (iblk m c 5 t) (iblk m c 6 t) (iblk m c 7 t) (iblk m c 8 t) (tails (iblk m c 2 t) (iblk m c 3 t)),
       block13 scM0_0 (iblk m c 0 t) (iblk m c 1 t) (iblk m c 2 t) (iblk m c 3 t) (iblk m c 4 t) (iblk m c 5 t) (iblk m c 6 t) (iblk m c 7 t) (iblk m c 8 t) (tails (iblk m c 2 t) (iblk m c 3 t)),
       tails (iblk m c 2 t) (iblk m c 3 t))

/-- The first point leaves the blocks of its inputs. -/
theorem leaves_first (t : Fin cfg0.N) (h0 : t.val % 64 = 0) : Leaves m c t := by
  refine (outsAt0_A m c t h0).trans (tuple6 ?_ ?_ ?_ ?_ ?_ ?_)
  · exact Cert.First2.out9_A ..
  · exact Cert.First2.out10_A ..
  · exact Cert.First2.out11_A ..
  · exact Cert.First2.out12_A ..
  · exact Cert.First2.out13_A ..
  · exact scratch_A ..

/-- A later point does, once the point before it has. -/
theorem leaves_later (t : Fin cfg0.N) (h0 : ¬ t.val % 64 = 0)
    (hs : (outsAt0 m c (t.val - 1) (Nat.lt_of_le_of_lt (Nat.sub_le _ _) t.isLt)).2.2.2.2.2 = tails (iblk m c 2 t) (iblk m c 3 t)) : Leaves m c t := by
  refine (outsAt0_B m c t h0).trans (tuple6 ?_ ?_ ?_ ?_ ?_ ?_)
  · exact (Cert.Later2.out9_B ..).trans (congrArg (block9 _ _ _ _ _) hs)
  · exact (Cert.Later2.out10_B ..).trans (congrArg (block10 _ _ _ _ _ _ _) hs)
  · exact (Cert.Later2.out11_B ..).trans (congrArg (block11 _ _ _ _ _ _ _ _ _) hs)
  · exact (Cert.Later2.out12_B ..).trans (congrArg (block12 _ _ _ _ _ _ _ _ _ _) hs)
  · exact (Cert.Later2.out13_B ..).trans (congrArg (block13 _ _ _ _ _ _ _ _ _ _) hs)
  · exact Eq.trans rfl hs

/-- The body leaves the five blocks and the tails at every point. -/
theorem leaves : ∀ (n : Nat) (hn : n < cfg0.N), Leaves m c ⟨n, hn⟩
  | 0, hn => leaves_first m c ⟨0, hn⟩ rfl
  | n + 1, hn => by
    have hN : n + 1 < 64 := lt_of_lt_of_eq hn N_0
    refine leaves_later m c ⟨n + 1, hn⟩ (by show ¬ (n + 1) % 64 = 0; omega) ?_
    refine (parts6 (leaves n (Nat.lt_of_succ_lt hn))).2.2.2.2.2.trans ?_
    rw [same2 m c ⟨n, _⟩ ⟨n + 1, hn⟩, same3 m c ⟨n, _⟩ ⟨n + 1, hn⟩]

/-- Row `R` after the first feed-forward, of the arguments. -/
def rowK (R : Fin 32768) : Fin 1024 → EReal :=
  ffnRow (fun k => m ((c.tc : Thread nD τ).loc main_arg0) (ix2 R k)) (fun k => m ((c.tc : Thread nD τ).loc main_arg1) (ix1 k))
    (fun k j => m ((c.tc : Thread nD τ).loc main_arg2) (ix2 k j)) (fun k j => m ((c.tc : Thread nD τ).loc main_arg3) (ix2 k j))
    (fun j n => m ((c.tc : Thread nD τ).loc main_arg4) (ix2 j n))

/-- Row `R` projected, of the arguments. -/
def prjK (R : Fin 32768) : Fin 3840 → EReal :=
  lin (rms (rowK m c R) fun k => m ((c.tc : Thread nD τ).loc main_arg5) (ix1 k)) (fun k n => m ((c.tc : Thread nD τ).loc main_arg6) (ix2 k n))

/-- The queries' gain, by its lane. -/
abbrev gainQ : Fin 64 → EReal := fun d => m ((c.tc : Thread nD τ).loc main_arg7) (ix1 d)

/-- The keys' gain, by its lane. -/
abbrev gainK : Fin 64 → EReal := fun d => m ((c.tc : Thread nD τ).loc main_arg8) (ix1 d)

/-- Row `R` of group `g`, of the arguments. -/
def attK (g : Fin 3) (R : Fin 32768) : Fin 768 → EReal :=
  attRow (prjK m c R) (gainQ m c) (gainK m c) g

section point
variable (t : Fin cfg0.N) (r : Fin 512) (R : Fin 32768) (hR : R.val = 512 * t.val + r.val)

include hR in
/-- A point's row is the array's row. -/
theorem row_at : rowB (iblk m c 0 t) (iblk m c 1 t) (iblk m c 2 t) (iblk m c 3 t) (iblk m c 4 t) r = rowK m c R := by
  have hlt : 512 * t.val + r.val < 32768 := hR ▸ R.isLt
  obtain rfl : R = ⟨512 * t.val + r.val, hlt⟩ := Fin.ext hR
  unfold rowB rowK
  simp only [fun k => blk0 m c t r k hlt, blk1 m c t, blk2 m c t, blk3 m c t, blk4 m c t]

include hR in
/-- Its projection is the array row's projection. -/
theorem prj_at : prjB (iblk m c 0 t) (iblk m c 1 t) (iblk m c 2 t) (iblk m c 3 t) (iblk m c 4 t) (iblk m c 5 t) (iblk m c 6 t) r = prjK m c R := by
  unfold prjB prjK
  rw [row_at m c t r R hR]
  simp only [blk5 m c t, blk6 m c t]

include hR in
/-- Its normed attention columns are the array row's. -/
theorem att_at (g : Fin 3) : attB (iblk m c 0 t) (iblk m c 1 t) (iblk m c 2 t) (iblk m c 3 t) (iblk m c 4 t) (iblk m c 5 t) (iblk m c 6 t)
    (gainQ m c) (gainK m c) g r = attK m c g R := by
  unfold attB attK
  rw [prj_at m c t r R hR]

end point

/-- The mixing gain and the projection's matrix hold real numbers. -/
def Finite : Prop := (∀ k : Fin 1024, IsReal (m ((c.tc : Thread nD τ).loc main_arg5) (ix1 k)))
  ∧ ∀ (k : Fin 1024) (n : Fin 3840), IsReal (m ((c.tc : Thread nD τ).loc main_arg6) (ix2 k n))

/-- Finite gain and projection make every projected column of a point a real number. -/
theorem prj_real (hf : Finite m c) (t : Fin cfg0.N) (r : Fin 512) (n : Fin 3840) :
    IsReal (prjB (iblk m c 0 t) (iblk m c 1 t) (iblk m c 2 t) (iblk m c 3 t) (iblk m c 4 t) (iblk m c 5 t) (iblk m c 6 t) r n) := by
  have hlt : 512 * t.val + r.val < 32768 := by
    have := lt_of_lt_of_eq t.isLt N_0
    omega
  rw [prj_at m c t r ⟨512 * t.val + r.val, hlt⟩ rfl]
  exact lin_real _ _ _ (fun k => rms_real _ _ _ (hf.1 k)) fun k => hf.2 k n

/-- At point `t` the first output block holds the array row after the first feed-forward. -/
theorem x_at (t : Fin cfg0.N) (r : Fin 512) (R : Fin 32768) (hR : R.val = 512 * t.val + r.val) (n : Fin 1024) :
    (outsAt0 m c t.val t.isLt).1 (ix2 r n) = rowK m c R n :=
  (congrFun (parts6 (leaves m c t.val t.isLt)).1 _).trans ((block9_apply _ _ _ _ _ r n).trans (congrFun (row_at m c t r R hR) n))

/-- The second output block holds the array row's first 1536 projected columns. -/
theorem hy_at (t : Fin cfg0.N) (r : Fin 512) (R : Fin 32768) (hR : R.val = 512 * t.val + r.val) (n : Fin 1536) :
    (outsAt0 m c t.val t.isLt).2.1 (ix2 r n) = prjK m c R ⟨n.val, by omega⟩ :=
  (congrFun (parts6 (leaves m c t.val t.isLt)).2.1 _).trans ((block10_apply _ _ _ _ _ _ _ r n).trans (congrFun (prj_at m c t r R hR) _))

/-- The third output block holds the first group of the array row. -/
theorem first_at (hf : Finite m c) (t : Fin cfg0.N) (r : Fin 512) (R : Fin 32768) (hR : R.val = 512 * t.val + r.val) (w : Fin 768) :
    (outsAt0 m c t.val t.isLt).2.2.1 (ix2 r w) = attK m c 0 R w :=
  (congrFun (parts6 (leaves m c t.val t.isLt)).2.2.1 _).trans
    ((block11_apply _ _ _ _ _ _ _ _ _ (gainQ m c) (gainK m c) (blk7 m c t) (blk8 m c t) (prj_real m c hf t) r w).trans (congrFun (att_at m c t r R hR 0) w))

/-- The fourth output block holds the second group, by residue modulo 4 of the row. -/
theorem second_at (hf : Finite m c) (t : Fin cfg0.N) (r : Fin 4) (i : Fin 128) (R : Fin 32768) (hR : R.val = 512 * t.val + (4 * i.val + r.val)) (w : Fin 768) :
    (outsAt0 m c t.val t.isLt).2.2.2.1 (ix4 (0 : Fin 1) r i w) = attK m c 1 R w :=
  (congrFun (parts6 (leaves m c t.val t.isLt)).2.2.2.1 _).trans
    ((block12_apply _ _ _ _ _ _ _ _ _ _ (gainQ m c) (gainK m c) (blk7 m c t) (blk8 m c t) (prj_real m c hf t) r i w).trans (congrFun (att_at m c t _ R hR 1) w))

/-- The fifth output block holds the third group, by residue modulo 16 of the row. -/
theorem third_at (hf : Finite m c) (t : Fin cfg0.N) (r : Fin 16) (i : Fin 32) (R : Fin 32768) (hR : R.val = 512 * t.val + (16 * i.val + r.val)) (w : Fin 768) :
    (outsAt0 m c t.val t.isLt).2.2.2.2.1 (ix4 (0 : Fin 1) r i w) = attK m c 2 R w :=
  (congrFun (parts6 (leaves m c t.val t.isLt)).2.2.2.2.1 _).trans
    ((block13_apply _ _ _ _ _ _ _ _ _ _ (gainQ m c) (gainK m c) (blk7 m c t) (blk8 m c t) (prj_real m c hf t) r i w).trans (congrFun (att_at m c t _ R hR 2) w))

/-- The array of rows after the first feed-forward. -/
theorem G9_apply (R : Fin 32768) (n : Fin 1024) : Value.G9 m c (ix2 R n) = rowK m c R n := by
  have hp : Value.pt9Of (ix2 R n) = R.val / 512 := by
    show 1 * (R.val / 512 - 0) + 1 * (n.val / 1024 - 0) = R.val / 512
    omega
  have hlt : R.val / 512 < cfg0.N := by rw [show cfg0.N = 64 from N_0]; omega
  have hl : Value.loc9Of (ix2 R n) = ix2 (⟨R.val % 512, Nat.mod_lt _ (by omega)⟩ : Fin 512) n := ix2_of _ _ _ rfl (Nat.mod_eq_of_lt n.isLt)
  unfold Value.G9
  rw [dif_pos (hp ▸ hlt), ← Value.outsAt0_sweep m c (Value.pt9Of (ix2 R n)) (hp ▸ hlt), hl]
  exact x_at m c ⟨Value.pt9Of (ix2 R n), hp ▸ hlt⟩ _ R (by
    show R.val = 512 * Value.pt9Of (ix2 R n) + R.val % 512
    rw [hp]; omega) n

/-- The array of the first 1536 projected columns. -/
theorem G10_apply (R : Fin 32768) (n : Fin 1536) : Value.G10 m c (ix2 R n) = prjK m c R ⟨n.val, by omega⟩ := by
  have hp : Value.pt10Of (ix2 R n) = R.val / 512 := by
    show 1 * (R.val / 512 - 0) + 1 * (n.val / 1536 - 0) = R.val / 512
    omega
  have hlt : R.val / 512 < cfg0.N := by rw [show cfg0.N = 64 from N_0]; omega
  have hl : Value.loc10Of (ix2 R n) = ix2 (⟨R.val % 512, Nat.mod_lt _ (by omega)⟩ : Fin 512) n := ix2_of _ _ _ rfl (Nat.mod_eq_of_lt n.isLt)
  unfold Value.G10
  rw [dif_pos (hp ▸ hlt), ← Value.outsAt0_sweep m c (Value.pt10Of (ix2 R n)) (hp ▸ hlt), hl]
  exact hy_at m c ⟨Value.pt10Of (ix2 R n), hp ▸ hlt⟩ _ R (by
    show R.val = 512 * Value.pt10Of (ix2 R n) + R.val % 512
    rw [hp]; omega) n

/-- The array of the first group. -/
theorem G11_apply (hf : Finite m c) (R : Fin 32768) (w : Fin 768) : Value.G11 m c (ix2 R w) = attK m c 0 R w := by
  have hp : Value.pt11Of (ix2 R w) = R.val / 512 := by
    show 1 * (R.val / 512 - 0) + 1 * (w.val / 768 - 0) = R.val / 512
    omega
  have hlt : R.val / 512 < cfg0.N := by rw [show cfg0.N = 64 from N_0]; omega
  have hl : Value.loc11Of (ix2 R w) = ix2 (⟨R.val % 512, Nat.mod_lt _ (by omega)⟩ : Fin 512) w := ix2_of _ _ _ rfl (Nat.mod_eq_of_lt w.isLt)
  unfold Value.G11
  rw [dif_pos (hp ▸ hlt), ← Value.outsAt0_sweep m c (Value.pt11Of (ix2 R w)) (hp ▸ hlt), hl]
  exact first_at m c hf ⟨Value.pt11Of (ix2 R w), hp ▸ hlt⟩ _ R (by
    show R.val = 512 * Value.pt11Of (ix2 R w) + R.val % 512
    rw [hp]; omega) w

/-- A rank-4 index with the coordinates `a`, `b`, `k` and `n`. -/
theorem ix4_of {A B C D : Nat} (f : (⟨4, ![A, B, C, D]⟩ : Shape).Idx) (a : Fin A) (b : Fin B) (k : Fin C) (n : Fin D)
    (h0 : (f 0).val = a.val) (h1 : (f 1).val = b.val) (h2 : (f 2).val = k.val) (h3 : (f 3).val = n.val) : f = ix4 a b k n :=
  funext fun x => Fin.ext (match x with
    | ⟨0, _⟩ => h0
    | ⟨1, _⟩ => h1
    | ⟨2, _⟩ => h2
    | ⟨3, _⟩ => h3)

/-- The array of the second group: place `i` of residue `r` of sequence `b` is row `4 i + r` of the sequence. -/
theorem G12_apply (hf : Finite m c) (b : Fin 8) (r : Fin 4) (i : Fin 1024) (w : Fin 768) (R : Fin 32768) (hR : R.val = 4096 * b.val + (i.val * 4 + r.val)) :
    Value.G12 m c (ix4 b r i w) = attK m c 1 R w := by
  have hp : Value.pt12Of (ix4 b r i w) = 8 * b.val + i.val / 128 := by
    show 8 * (b.val / 1 - 0) + 8 * (r.val / 4 - 0) + 1 * (i.val / 128 - 0) + 1 * (w.val / 768 - 0) = 8 * b.val + i.val / 128
    omega
  have hlt : 8 * b.val + i.val / 128 < cfg0.N := by rw [show cfg0.N = 64 from N_0]; omega
  have hl : Value.loc12Of (ix4 b r i w) = ix4 (0 : Fin 1) r (⟨i.val % 128, Nat.mod_lt _ (by omega)⟩ : Fin 128) w :=
    ix4_of _ _ _ _ _ (Nat.mod_one _) (Nat.mod_eq_of_lt r.isLt) rfl (Nat.mod_eq_of_lt w.isLt)
  unfold Value.G12
  rw [dif_pos (hp ▸ hlt), ← Value.outsAt0_sweep m c (Value.pt12Of (ix4 b r i w)) (hp ▸ hlt), hl]
  exact second_at m c hf ⟨Value.pt12Of (ix4 b r i w), hp ▸ hlt⟩ r _ R (by
    show R.val = 512 * Value.pt12Of (ix4 b r i w) + (4 * (i.val % 128) + r.val)
    rw [hp]; omega) w

/-- The array of the third group: place `i` of residue `r` of sequence `b` is row `16 i + r` of the sequence. -/
theorem G13_apply (hf : Finite m c) (b : Fin 8) (r : Fin 16) (i : Fin 256) (w : Fin 768) (R : Fin 32768) (hR : R.val = 4096 * b.val + (i.val * 16 + r.val)) :
    Value.G13 m c (ix4 b r i w) = attK m c 2 R w := by
  have hp : Value.pt13Of (ix4 b r i w) = 8 * b.val + i.val / 32 := by
    show 8 * (b.val / 1 - 0) + 8 * (r.val / 16 - 0) + 1 * (i.val / 32 - 0) + 1 * (w.val / 768 - 0) = 8 * b.val + i.val / 32
    omega
  have hlt : 8 * b.val + i.val / 32 < cfg0.N := by rw [show cfg0.N = 64 from N_0]; omega
  have hl : Value.loc13Of (ix4 b r i w) = ix4 (0 : Fin 1) r (⟨i.val % 32, Nat.mod_lt _ (by omega)⟩ : Fin 32) w :=
    ix4_of _ _ _ _ _ (Nat.mod_one _) (Nat.mod_eq_of_lt r.isLt) rfl (Nat.mod_eq_of_lt w.isLt)
  unfold Value.G13
  rw [dif_pos (hp ▸ hlt), ← Value.outsAt0_sweep m c (Value.pt13Of (ix4 b r i w)) (hp ▸ hlt), hl]
  exact third_at m c hf ⟨Value.pt13Of (ix4 b r i w), hp ▸ hlt⟩ r _ R (by
    show R.val = 512 * Value.pt13Of (ix4 b r i w) + (16 * (i.val % 32) + r.val)
    rw [hp]; omega) w

end Cert.Fold2

end
-- ==== Proof.Match2.lean ====
/- The projection kernel's five arrays and its reference's five results agree index by index on equal arguments, when the
   mixing gain and the projection's matrix are finite; and the printed precondition says just that. -/
module

public import proofs.«01_k».proof.Pre_finite
public import proofs.«01_k».proof.Proof.Ref2
public import proofs.«01_k».proof.Proof.Fold2

@[expose] public section

set_option maxRecDepth 16384

noncomputable section

namespace Cert.Match2

open Idealize.ShloMosaic Idealize.ShloMosaic.TcCoe Cert.Heads Cert.Inputs2 Cert.Windows Cert.Fold2

/-- The shape relations the precondition's broadcasts take. -/
instance preFacts : Cert.Pre_finite.Facts where
  bcast_S_S1024x3840 := by decide
  bcast_S_S1024 := by decide
  bcast_S1024_S1024x1_0 := by decide
  bcast_S1024x1_S1024x3840_0_1 := by decide

/-- The positive infinity's pattern. -/
theorem ofBits_inf : Ideal.ofBits .f32 0x7F800000#32 = ⊤ := by
  simp [Ideal.ofBits, Ideal.ieee]

/-- Two conditions' conjunction is one only when both hold. -/
theorem both_of_andi (p q : Prop) [Decidable p] [Decidable q] (h : IntOp.andi (BitVec.ofBool (decide p)) (BitVec.ofBool (decide q)) = 1#1) : p ∧ q := by
  by_cases hp : p <;> by_cases hq : q <;> simp_all [IntOp.andi]

/-- An extended real whose absolute value is below infinity is a real number. -/
theorem isReal_of_abs (x : EReal) (h : max x (-x) < ⊤) : IsReal x := by
  refine isReal_of_ne (fun e => ?_) fun e => ?_
  · subst e; simp at h
  · subst e; simp at h

/-- Where the precondition's array is all ones, the mixing gain and the projection's matrix hold real numbers. -/
theorem finite_of (x0 x1 x2 x3 x4) (g : FVec Ideal Cert.Pre_finite.S1024 .f32) (w : FVec Ideal Cert.Pre_finite.S1024x3840 .f32) (x7 x8)
    (h : Cert.Pre_finite.fn (F := Ideal) x0 x1 x2 x3 x4 g w x7 x8 = fun _ => 1#1) (k : Fin 1024) (n : Fin 3840) : IsReal (g (ix1 k)) ∧ IsReal (w (ix2 k n)) := by
  have e := congrFun h (ix2 k n)
  revert e
  pointwise [Cert.Pre_finite.fn]
  intro e
  obtain ⟨hw, hg⟩ := both_of_andi _ _ e
  rw [ofBits_inf] at hw hg
  exact ⟨isReal_of_abs _ hg, isReal_of_abs _ hw⟩

variable (m : (l : Loc Cert.Kernel2Ideal.nD Cert.Kernel2Ideal.τ Cert.Kernel2Ideal.sig) → Buf (Elt Ideal) l)
  (m' : (l : Loc Cert.Reference2Ideal.nD Cert.Reference2Ideal.τ Cert.Reference2Ideal.sig) → Buf (Elt Ideal) l) (c : Dev 1)
  (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
  (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
  (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
  (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
  (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
  (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
  (e6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
  (e7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
  (e8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))

include e0 e1 e2 e3 e4 in
/-- The rows agree. -/
theorem row_eq (R : Fin 32768) : Cert.Ref2.rowAt m' c R = rowK m c R := by
  unfold Cert.Ref2.rowAt rowK
  rw [e0, e1, e2, e3, e4]

include e0 e1 e2 e3 e4 e5 e6 in
/-- Their projections agree. -/
theorem prj_eq (R : Fin 32768) : Cert.Ref2.projAt m' c R = prjK m c R := by
  unfold Cert.Ref2.projAt prjK
  rw [row_eq m m' c e0 e1 e2 e3 e4, e5, e6]

include e0 e1 e2 e3 e4 e5 e6 e7 e8 in
/-- The normalised attention columns agree. -/
theorem att_eq (g : Fin 3) (R : Fin 32768) : Cert.Ref2.attAt m' c g R = attK m c g R := by
  unfold Cert.Ref2.attAt attK
  rw [prj_eq m m' c e0 e1 e2 e3 e4 e5 e6, e7, e8]

include e0 e1 e2 e3 e4 in
/-- The rows after the first feed-forward agree. -/
theorem rows_eq (j : (⟨2, ![32768, 1024]⟩ : Shape).Idx) : Cert.Ref2.rowsR m' c j = Cert.Kernel2Ideal.Value.G9 m c j := by
  obtain ⟨R, n, rfl⟩ : ∃ (R : Fin 32768) (n : Fin 1024), j = ix2 R n := ⟨j 0, j 1, ix2_of _ _ _ rfl rfl⟩
  exact (Cert.Ref2.rowsR_apply m' c R n).trans ((congrFun (row_eq m m' c e0 e1 e2 e3 e4 R) n).trans (G9_apply m c R n).symm)

include e0 e1 e2 e3 e4 e5 e6 in
/-- The first 1536 projected columns agree. -/
theorem hy_eq (j : (⟨2, ![32768, 1536]⟩ : Shape).Idx) : Cert.Reference2Ideal.Value.res_main_v36 m' c j = Cert.Kernel2Ideal.Value.G10 m c j := by
  obtain ⟨R, n, rfl⟩ : ∃ (R : Fin 32768) (n : Fin 1536), j = ix2 R n := ⟨j 0, j 1, ix2_of _ _ _ rfl rfl⟩
  exact (Cert.Ref2.hy_apply m' c R n).trans ((congrFun (prj_eq m m' c e0 e1 e2 e3 e4 e5 e6 R) _).trans (G10_apply m c R n).symm)

variable (hf : Finite m c)

include e0 e1 e2 e3 e4 e5 e6 e7 e8 hf in
/-- The first group agrees. -/
theorem first_eq (j : (⟨2, ![32768, 768]⟩ : Shape).Idx) : Cert.Reference2Ideal.Value.res_main_v112 m' c j = Cert.Kernel2Ideal.Value.G11 m c j := by
  obtain ⟨R, w, rfl⟩ : ∃ (R : Fin 32768) (w : Fin 768), j = ix2 R w := ⟨j 0, j 1, ix2_of _ _ _ rfl rfl⟩
  exact (Cert.Ref2.a0_apply m' c R w).trans ((congrFun (att_eq m m' c e0 e1 e2 e3 e4 e5 e6 e7 e8 0 R) w).trans (G11_apply m c hf R w).symm)

include e0 e1 e2 e3 e4 e5 e6 e7 e8 hf in
/-- The second group agrees. -/
theorem second_eq (j : (⟨4, ![8, 4, 1024, 768]⟩ : Shape).Idx) : Cert.Reference2Ideal.Value.res_main_v98 m' c j = Cert.Kernel2Ideal.Value.G12 m c j := by
  obtain ⟨b, r, i, w, rfl⟩ : ∃ (b : Fin 8) (r : Fin 4) (i : Fin 1024) (w : Fin 768), j = ix4 b r i w := ⟨j 0, j 1, j 2, j 3, ix4_of _ _ _ _ _ rfl rfl rfl rfl⟩
  have hlt : 4096 * b.val + (i.val * 4 + r.val) < 32768 := by omega
  exact (Cert.Ref2.a1_apply m' c b r i w ⟨_, hlt⟩ rfl).trans ((congrFun (att_eq m m' c e0 e1 e2 e3 e4 e5 e6 e7 e8 1 ⟨_, hlt⟩) w).trans (G12_apply m c hf b r i w ⟨_, hlt⟩ rfl).symm)

include e0 e1 e2 e3 e4 e5 e6 e7 e8 hf in
/-- The third group agrees. -/
theorem third_eq (j : (⟨4, ![8, 16, 256, 768]⟩ : Shape).Idx) : Cert.Reference2Ideal.Value.res_main_v111 m' c j = Cert.Kernel2Ideal.Value.G13 m c j := by
  obtain ⟨b, r, i, w, rfl⟩ : ∃ (b : Fin 8) (r : Fin 16) (i : Fin 256) (w : Fin 768), j = ix4 b r i w := ⟨j 0, j 1, j 2, j 3, ix4_of _ _ _ _ _ rfl rfl rfl rfl⟩
  have hlt : 4096 * b.val + (i.val * 16 + r.val) < 32768 := by omega
  exact (Cert.Ref2.a2_apply m' c b r i w ⟨_, hlt⟩ rfl).trans ((congrFun (att_eq m m' c e0 e1 e2 e3 e4 e5 e6 e7 e8 2 ⟨_, hlt⟩) w).trans (G13_apply m c hf b r i w ⟨_, hlt⟩ rfl).symm)

end Cert.Match2

end
-- ==== Proof.lean ====
/- The certificate's claims, for the merge-and-feed-forward kernel and for the feed-forward-and-projection kernel: every
   program's frame, each kernel's and its idealisation's equality of text, and the equations of each kernel's results with
   its reference's. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Ref
public import proofs.«01_k».proof.Proof.Fold
public import proofs.«01_k».proof.Proof.Gen.Kernel2.Frame
public import proofs.«01_k».proof.Proof.Gen.Kernel2Ideal.Value
public import proofs.«01_k».proof.Proof.Gen.Reference2Ideal.Run
public import proofs.«01_k».proof.Proof.Match2
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its arguments unchanged and every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the reference's result and the kernel's output array agree at every row and column. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (R : Fin 32768) (n : Fin 1024) (j : (⟨2, ![32768, 1024]⟩ : Shape).Idx) (hj : j = ix2 R n) :
    Cert.ReferenceIdeal.Value.res_main_v57 m' c j = Cert.KernelIdeal.Value.G13 m c j := by
  subst hj
  refine (Cert.Ref.res_apply m' c R n).trans ?_
  rw [e0, e1, e2, e3, e4, e5, e6, e7, e8, e9, e10, e11, e12]
  exact (Cert.Fold.G13_apply m c R n).symm

/-- From equal arguments the kernel and the reference both run and end with equal results. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, e1, e2, e3, e4, e5, e6, e7, e8, e9, e10, e11, e12⟩ := hagree c
  exact funext fun j => results_eq m m' c e0 e1 e2 e3 e4 e5 e6 e7 e8 e9 e10 e11 e12 (j 0) (j 1) j (funext fun a => match a with | ⟨0, _⟩ => rfl | ⟨1, _⟩ => rfl)

/-- The second reference ends with its arguments unchanged and every semaphore at zero. -/
theorem quiescent_Reference2Ideal : quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- From equal arguments, with the mixing gain and the projection's matrix finite, the second kernel and its reference
both run and end with equal results. -/
theorem algebraic_Kernel2Ideal_Reference2Ideal_pre_finite : algebraic_Kernel2Ideal_Reference2Ideal_pre_finite := by
  intro m ρ m' ρ' hpre hagree
  refine ⟨_, _, _, _, _, Cert.Kernel2Ideal.Value.run (F := Ideal) m ρ, ?_⟩
  refine (θ_run Cert.Reference2Ideal.defs _ _).mono (fun _ h c => ?_) (Cert.Reference2Ideal.Value.run (F := Ideal) m' ρ')
  obtain ⟨e0, e1, e2, e3, e4, e5, e6, e7, e8⟩ := hagree c
  have hf : Cert.Fold2.Finite m c := ⟨fun k => (Cert.Match2.finite_of _ _ _ _ _ _ _ _ _ (hpre c) k 0).1, fun k n => (Cert.Match2.finite_of _ _ _ _ _ _ _ _ _ (hpre c) k n).2⟩
  obtain ⟨h0, h1, h2, h3, h4, ha⟩ := h c
  refine ⟨h0.trans (Eq.trans (b := Cert.Ref2.rowsR m' c) ?_ (funext fun j => Cert.Match2.rows_eq m m' c e0 e1 e2 e3 e4 j)),
    h1.trans (funext fun j => Cert.Match2.hy_eq m m' c e0 e1 e2 e3 e4 e5 e6 j),
    h2.trans (funext fun j => Cert.Match2.first_eq m m' c e0 e1 e2 e3 e4 e5 e6 e7 e8 hf j),
    h3.trans (funext fun j => Cert.Match2.second_eq m m' c e0 e1 e2 e3 e4 e5 e6 e7 e8 hf j),
    h4.trans (funext fun j => Cert.Match2.third_eq m m' c e0 e1 e2 e3 e4 e5 e6 e7 e8 hf j), ha⟩
  unfold Cert.Ref2.rowsR Cert.Ref.ffnR Cert.Ref.hiddenR Cert.Ref.normR
  rfl

/-- The certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Match2.preFacts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, fun m ρ _ => Cert.Kernel2Ideal.Gen.frame m ρ,
  quiescent_Reference2Ideal, fun m ρ _ => quiescent_Reference2Ideal m ρ trivial,
  (trivial : preserves_Kernel_KernelIdeal), algebraic_KernelIdeal_ReferenceIdeal,
  (trivial : preserves_Kernel2_Kernel2Ideal), algebraic_Kernel2Ideal_Reference2Ideal_pre_finite⟩

end Cert.Proof

end
